-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_trained_inputs [hPre_trained_inputs : Cert.Pre_trained_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_trained_inputs [hPre_trained_inputs : Cert.Pre_trained_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_trained_inputs [hKernelIdeal : Cert.KernelIdeal.Facts] [hPre_trained_inputs : Cert.Pre_trained_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trained_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_trained_inputs [hReferenceIdeal : Cert.ReferenceIdeal.Facts] [hPre_trained_inputs : Cert.Pre_trained_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trained_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_trained_inputs [hKernelIdeal : Cert.KernelIdeal.Facts] [hReferenceIdeal : Cert.ReferenceIdeal.Facts] [hPre_trained_inputs : Cert.Pre_trained_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trained_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_trained_inputs : Cert.Pre_trained_inputs.Facts),
    quiescent_Kernel (hKernel := hKernel)
    ∧ quiescent_KernelIdeal (hKernelIdeal := hKernelIdeal)
    ∧ quiescent_KernelIdeal_pre_trained_inputs (hKernelIdeal := hKernelIdeal) (hPre_trained_inputs := hPre_trained_inputs)
    ∧ quiescent_ReferenceIdeal (hReferenceIdeal := hReferenceIdeal)
    ∧ quiescent_ReferenceIdeal_pre_trained_inputs (hReferenceIdeal := hReferenceIdeal) (hPre_trained_inputs := hPre_trained_inputs)
    ∧ preserves_Kernel_KernelIdeal
    ∧ algebraic_KernelIdeal_ReferenceIdeal_pre_trained_inputs (hKernelIdeal := hKernelIdeal) (hReferenceIdeal := hReferenceIdeal) (hPre_trained_inputs := hPre_trained_inputs)
-- ==== Pre_trained_inputs.lean ====
abbrev S16x8x512x64 : Shape := ⟨4, ![16, 8, 512, 64]⟩
abbrev S16x8x512 : Shape := ⟨3, ![16, 8, 512]⟩
abbrev S64x256 : Shape := ⟨2, ![64, 256]⟩
abbrev S256 : Shape := ⟨1, ![256]⟩
abbrev S512x256 : Shape := ⟨2, ![512, 256]⟩
abbrev S256x256 : Shape := ⟨2, ![256, 256]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  reducesTo_S16x8x512_S_d0_1_2 : S16x8x512.ReducesTo [0, 1, 2] S_
  h_S_ : 0 < S_.numel
  bcast_S_S16x8x512x64 : S_.BroadcastsInDim S16x8x512x64 (![] : Fin 0 → Fin S16x8x512x64.rank)
  reducesTo_S16x8x512x64_S_d0_1_2_3 : S16x8x512x64.ReducesTo [0, 1, 2, 3] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg9 : FVec F S256 .f32) (main_v49 : IVec S_ 1) (main_cst_19 : FVec F S_ .f32) : IVec S_ 1 :=
  let main_v50 : FVec F S256 .f32 := broadcastInDim S256 ![] bcast_S_S256 main_cst_19
  let main_v51 : IVec S256 1 := cmpf .ogt main_arg9 main_v50
  let main_c_20 : IVec S_ 1 := constantI S_ 1 1#1
  let main_v52 : IVec S_ 1 := (fun x v => Host.reduce IntOp.andi x v reducesTo_S256_S_d0 h_S_) main_v51 main_c_20
  let main_v53 : IVec S_ 1 := andi main_v49 main_v52
  main_v53

def fn_part2 {F : FTy → Type} [FloatOps F] (main_arg6 : FVec F S256 .f32) (main_arg8 : FVec F S256x256 .f32) (main_arg9 : FVec F S256 .f32) (main_v30 : IVec S_ 1) (main_v33 : IVec S256 1) : IVec S_ 1 :=
  let main_c_12 : IVec S_ 1 := constantI S_ 1 1#1
  let main_v34 : IVec S_ 1 := (fun x v => Host.reduce IntOp.andi x v reducesTo_S256_S_d0 h_S_) main_v33 main_c_12
  let main_v35 : IVec S_ 1 := andi main_v30 main_v34
  let main_v36 : FVec F S256x256 .f32 := Host.absf main_arg8
  let main_cst_13 : FVec F S_ .f32 := constant S_ .f32 0x7F800000#32
  let main_v37 : FVec F S256x256 .f32 := broadcastInDim S256x256 ![] bcast_S_S256x256 main_cst_13
  let main_v38 : IVec S256x256 1 := cmpf .olt main_v36 main_v37
  let main_c_14 : IVec S_ 1 := constantI S_ 1 1#1
  let main_v39 : IVec S_ 1 := (fun x v => Host.reduce IntOp.andi x v reducesTo_S256x256_S_d0_1 h_S_) main_v38 main_c_14
  let main_v40 : IVec S_ 1 := andi main_v35 main_v39
  let main_v41 : FVec F S256 .f32 := Host.absf main_arg9
  let main_cst_15 : FVec F S_ .f32 := constant S_ .f32 0x7F800000#32
  let main_v42 : FVec F S256 .f32 := broadcastInDim S256 ![] bcast_S_S256 main_cst_15
  let main_v43 : IVec S256 1 := cmpf .olt main_v41 main_v42
  let main_c_16 : IVec S_ 1 := constantI S_ 1 1#1
  let main_v44 : IVec S_ 1 := (fun x v => Host.reduce IntOp.andi x v reducesTo_S256_S_d0 h_S_) main_v43 main_c_16
  let main_v45 : IVec S_ 1 := andi main_v40 main_v44
  let main_cst_17 : FVec F S_ .f32 := constant S_ .f32 0x00000000#32
  let main_v46 : FVec F S256 .f32 := broadcastInDim S256 ![] bcast_S_S256 main_cst_17
  let main_v47 : IVec S256 1 := cmpf .oge main_arg6 main_v46
  let main_c_18 : IVec S_ 1 := constantI S_ 1 1#1
  let main_v48 : IVec S_ 1 := (fun x v => Host.reduce IntOp.andi x v reducesTo_S256_S_d0 h_S_) main_v47 main_c_18
  let main_v49 : IVec S_ 1 := andi main_v45 main_v48
  let main_cst_19 : FVec F S_ .f32 := constant S_ .f32 0x00000000#32
  fn_part3 (F := F) main_arg9 main_v49 main_cst_19

def fn_part1 {F : FTy → Type} [FloatOps F] (main_arg5 : FVec F S512x256 .f32) (main_arg6 : FVec F S256 .f32) (main_arg7 : FVec F S256 .f32) (main_arg8 : FVec F S256x256 .f32) (main_arg9 : FVec F S256 .f32) (main_v15 : IVec S_ 1) (main_v16 : FVec F S256 .f32) : IVec S_ 1 :=
  let main_cst_5 : FVec F S_ .f32 := constant S_ .f32 0x7F800000#32
  let main_v17 : FVec F S256 .f32 := broadcastInDim S256 ![] bcast_S_S256 main_cst_5
  let main_v18 : IVec S256 1 := cmpf .olt main_v16 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v15 main_v19
  let main_v21 : FVec F S512x256 .f32 := Host.absf main_arg5
  let main_cst_7 : FVec F S_ .f32 := constant S_ .f32 0x7F800000#32
  let main_v22 : FVec F S512x256 .f32 := broadcastInDim S512x256 ![] bcast_S_S512x256 main_cst_7
  let main_v23 : IVec S512x256 1 := cmpf .olt main_v21 main_v22
  let main_c_8 : IVec S_ 1 := constantI S_ 1 1#1
  let main_v24 : IVec S_ 1 := (fun x v => Host.reduce IntOp.andi x v reducesTo_S512x256_S_d0_1 h_S_) main_v23 main_c_8
  let main_v25 : IVec S_ 1 := andi main_v20 main_v24
  let main_v26 : FVec F S256 .f32 := Host.absf main_arg6
  let main_cst_9 : FVec F S_ .f32 := constant S_ .f32 0x7F800000#32
  let main_v27 : FVec F S256 .f32 := broadcastInDim S256 ![] bcast_S_S256 main_cst_9
  let main_v28 : IVec S256 1 := cmpf .olt main_v26 main_v27
  let main_c_10 : IVec S_ 1 := constantI S_ 1 1#1
  let main_v29 : IVec S_ 1 := (fun x v => Host.reduce IntOp.andi x v reducesTo_S256_S_d0 h_S_) main_v28 main_c_10
  let main_v30 : IVec S_ 1 := andi main_v25 main_v29
  let main_v31 : FVec F S256 .f32 := Host.absf main_arg7
  let main_cst_11 : FVec F S_ .f32 := constant S_ .f32 0x7F800000#32
  let main_v32 : FVec F S256 .f32 := broadcastInDim S256 ![] bcast_S_S256 main_cst_11
  let main_v33 : IVec S256 1 := cmpf .olt main_v31 main_v32
  fn_part2 (F := F) main_arg6 main_arg8 main_arg9 main_v30 main_v33

def fn {F : FTy → Type} [FloatOps F] (main_arg0 : FVec F S16x8x512x64 .f32) (main_arg1 : IVec S16x8x512 1) (main_arg2 : FVec F S64x256 .f32) (main_arg3 : FVec F S256 .f32) (main_arg4 : FVec F S256 .f32) (main_arg5 : FVec F S512x256 .f32) (main_arg6 : FVec F S256 .f32) (main_arg7 : FVec F S256 .f32) (main_arg8 : FVec F S256x256 .f32) (main_arg9 : FVec F S256 .f32) (main_arg10 : FVec F S256 .f32) (main_arg11 : FVec F S256x256 .f32) (main_arg12 : FVec F S256 .f32) (main_arg13 : FVec F S256x256 .f32) (main_arg14 : FVec F S256 .f32) (main_arg15 : FVec F S2048x1024 .f32) (main_arg16 : FVec F S1024 .f32) (main_arg17 : FVec F S1024x512 .f32) (main_arg18 : FVec F S512 .f32) : IVec S_ 1 :=
  let main_c : IVec S_ 1 := constantI S_ 1 1#1
  let main_v0 : IVec S_ 1 := (fun x v => Host.reduce IntOp.andi x v reducesTo_S16x8x512_S_d0_1_2 h_S_) main_arg1 main_c
  let main_v1 : FVec F S16x8x512x64 .f32 := Host.absf main_arg0
  let main_cst : FVec F S_ .f32 := constant S_ .f32 0x7F800000#32
  let main_v2 : FVec F S16x8x512x64 .f32 := broadcastInDim S16x8x512x64 ![] bcast_S_S16x8x512x64 main_cst
  let main_v3 : IVec S16x8x512x64 1 := cmpf .olt main_v1 main_v2
  let main_c_0 : IVec S_ 1 := constantI S_ 1 1#1
  let main_v4 : IVec S_ 1 := (fun x v => Host.reduce IntOp.andi x v reducesTo_S16x8x512x64_S_d0_1_2_3 h_S_) main_v3 main_c_0
  let main_v5 : IVec S_ 1 := andi main_v0 main_v4
  let main_v6 : FVec F S64x256 .f32 := Host.absf main_arg2
  let main_cst_1 : FVec F S_ .f32 := constant S_ .f32 0x7F800000#32
  let main_v7 : FVec F S64x256 .f32 := broadcastInDim S64x256 ![] bcast_S_S64x256 main_cst_1
  let main_v8 : IVec S64x256 1 := cmpf .olt main_v6 main_v7
  let main_c_2 : IVec S_ 1 := constantI S_ 1 1#1
  let main_v9 : IVec S_ 1 := (fun x v => Host.reduce IntOp.andi x v reducesTo_S64x256_S_d0_1 h_S_) main_v8 main_c_2
  let main_v10 : IVec S_ 1 := andi main_v5 main_v9
  let main_v11 : FVec F S256 .f32 := Host.absf main_arg3
  let main_cst_3 : FVec F S_ .f32 := constant S_ .f32 0x7F800000#32
  let main_v12 : FVec F S256 .f32 := broadcastInDim S256 ![] bcast_S_S256 main_cst_3
  let main_v13 : IVec S256 1 := cmpf .olt main_v11 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v10 main_v14
  let main_v16 : FVec F S256 .f32 := Host.absf main_arg4
  fn_part1 (F := F) main_arg5 main_arg6 main_arg7 main_arg8 main_arg9 main_v15 main_v16
-- ==== Kernel.lean ====
abbrev S16x8x512x64 : Shape := ⟨4, ![16, 8, 512, 64]⟩
abbrev S16x8x512 : Shape := ⟨3, ![16, 8, 512]⟩
abbrev S64x256 : Shape := ⟨2, ![64, 256]⟩
abbrev S256 : Shape := ⟨1, ![256]⟩
abbrev S512x256 : Shape := ⟨2, ![512, 256]⟩
abbrev S256x256 : Shape := ⟨2, ![256, 256]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S1x256 : Shape := ⟨2, ![1, 256]⟩
abbrev S65536x256 : Shape := ⟨2, ![65536, 256]⟩
abbrev S2x256 : Shape := ⟨2, ![2, 256]⟩
abbrev S2x8x512x64 : Shape := ⟨4, ![2, 8, 512, 64]⟩
abbrev S8192x256 : Shape := ⟨2, ![8192, 256]⟩
abbrev S8192x64 : Shape := ⟨2, ![8192, 64]⟩
abbrev S1x1024 : Shape := ⟨2, ![1, 1024]⟩
abbrev S1x512 : Shape := ⟨2, ![1, 512]⟩
abbrev S16x512 : Shape := ⟨2, ![16, 512]⟩
abbrev S4096x256 : Shape := ⟨2, ![4096, 256]⟩
abbrev S128x256 : Shape := ⟨2, ![128, 256]⟩
abbrev S256x1 : Shape := ⟨2, ![256, 1]⟩
abbrev S8x256 : Shape := ⟨2, ![8, 256]⟩
abbrev S16x2048 : Shape := ⟨2, ![16, 2048]⟩
abbrev S16x1024 : Shape := ⟨2, ![16, 1024]⟩
abbrev S16x8x64 : Shape := ⟨3, ![16, 8, 64]⟩

abbrev nBuf : Space → Nat
  | .hbm => 41
  | .vmem => 35
  | .smem => 0
  | _ => 0

abbrev bufTy : (tb : Table) → Fin (tcTables nBuf tb) → BufTy
  | .hbm, ⟨0, _⟩ => ⟨S16x8x512x64, .f32⟩
  | .hbm, ⟨1, _⟩ => ⟨S16x8x512, .i1⟩
  | .hbm, ⟨2, _⟩ => ⟨S64x256, .f32⟩
  | .hbm, ⟨3, _⟩ => ⟨S256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S2048x1024, .f32⟩
  | .hbm, ⟨16, _⟩ => ⟨S1024, .f32⟩
  | .hbm, ⟨17, _⟩ => ⟨S1024x512, .f32⟩
  | .hbm, ⟨18, _⟩ => ⟨S512, .f32⟩
  | .hbm, ⟨19, _⟩ => ⟨S64x256, .bf16⟩
  | .hbm, ⟨20, _⟩ => ⟨S256x256, .bf16⟩
  | .hbm, ⟨21, _⟩ => ⟨S256x256, .f32⟩
  | .hbm, ⟨22, _⟩ => ⟨S256x256, .bf16⟩
  | .hbm, ⟨23, _⟩ => ⟨S256x256, .f32⟩
  | .hbm, ⟨24, _⟩ => ⟨S256x256, .bf16⟩
  | .hbm, ⟨25, _⟩ => ⟨S1x256, .f32⟩
  | .hbm, ⟨26, _⟩ => ⟨S1x256, .f32⟩
  | .hbm, ⟨27, _⟩ => ⟨S65536x256, .f32⟩
  | .hbm, ⟨28, _⟩ => ⟨S2x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S2048x1024, .bf16⟩
  | .hbm, ⟨36, _⟩ => ⟨S1x1024, .f32⟩
  | .hbm, ⟨37, _⟩ => ⟨S1024x512, .bf16⟩
  | .hbm, ⟨38, _⟩ => ⟨S1x512, .f32⟩
  | .hbm, ⟨39, _⟩ => ⟨S16x512, .f32⟩
  | .hbm, ⟨40, _⟩ => ⟨S16x8x64, .f32⟩
  | .local _ .vmem, ⟨0, _⟩ => ⟨S2x8x512x64, .f32⟩
  | .local _ .vmem, ⟨1, _⟩ => ⟨S2x8x512x64, .f32⟩
  | .local _ .vmem, ⟨2, _⟩ => ⟨S1x256, .f32⟩
  | .local _ .vmem, ⟨3, _⟩ => ⟨S1x256, .f32⟩
  | .local _ .vmem, ⟨4, _⟩ => ⟨S64x256, .bf16⟩
  | .local _ .vmem, ⟨5, _⟩ => ⟨S256x256, .bf16⟩
  | .local _ .vmem, ⟨6, _⟩ => ⟨S256x256, .bf16⟩
  | .local _ .vmem, ⟨7, _⟩ => ⟨S8192x256, .f32⟩
  | .local _ .vmem, ⟨8, _⟩ => ⟨S8192x256, .f32⟩
  | .local _ .vmem, ⟨9, _⟩ => ⟨S2x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S4096x256, .f32⟩
  | .local _ .vmem, ⟨15, _⟩ => ⟨S4096x256, .f32⟩
  | .local _ .vmem, ⟨16, _⟩ => ⟨S2x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S256x256, .bf16⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S1x256, .f32⟩
  | .local _ .vmem, ⟨26, _⟩ => ⟨S2048x1024, .bf16⟩
  | .local _ .vmem, ⟨27, _⟩ => ⟨S1x1024, .f32⟩
  | .local _ .vmem, ⟨28, _⟩ => ⟨S1024x512, .bf16⟩
  | .local _ .vmem, ⟨29, _⟩ => ⟨S1x512, .f32⟩
  | .local _ .vmem, ⟨30, _⟩ => ⟨S16x512, .f32⟩
  | .local _ .vmem, ⟨31, _⟩ => ⟨S65536x256, .bf16⟩
  | .local _ .vmem, ⟨32, _⟩ => ⟨S128x256, .f32⟩
  | .local _ .vmem, ⟨33, _⟩ => ⟨S1x256, .f32⟩
  | .local _ .vmem, ⟨34, _⟩ => ⟨S1x256, .f32⟩
  | _, _ => ⟨S16x8x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc1_scratch3 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c15_i32 : BitVec 32 := 15#32
  let v9 : BitVec 1 := Scalar.cmpi .eq arg0 c15_i32
  let v10 : BitVec 32 := Scalar.extui v9
  let c0_i32_4 : BitVec 32 := 0#32
  let v11 : BitVec 1 := Scalar.cmpi .ne v10 c0_i32_4
  v11

def cc0_transform_0 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let v2 : BitVec 32 := Scalar.select v0 arg0 v1
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k1_off1 (i : grid1.Coords) : Fin 2 → Nat :=
  let arg0 : BitVec 32 := BitVec.ofNat 32 (i 0).val
  let c4096_i32 : BitVec 32 := 4096#32
  let v64 : BitVec 32 := Scalar.muli arg0 c4096_i32
  let v65 : Index := Scalar.indexCast v64
  let c0_29 : Index := 0#32
  ![v65.toNat, 0]
def k1_cond3 (i : grid1.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

def k1_off2 (i : grid1.Coords) : Fin 2 → Nat :=
  let arg0 : BitVec 32 := BitVec.ofNat 32 (i 0).val
  let c16_i32_5 : BitVec 32 := 16#32
  let v12 : BitVec 32 := Scalar.subi arg0 c16_i32_5
  let c4096_i32 : BitVec 32 := 4096#32
  let v32 : BitVec 32 := Scalar.muli v12 c4096_i32
  let v33 : Index := Scalar.indexCast v32
  let c0_15 : Index := 0#32
  ![v33.toNat, 0]
def k1_off3 (i : grid1.Coords) : Fin 2 → Nat :=
  let arg0 : BitVec 32 := BitVec.ofNat 32 (i 0).val
  let c16_i32_5 : BitVec 32 := 16#32
  let v12 : BitVec 32 := Scalar.subi arg0 c16_i32_5
  let c8_i32 : BitVec 32 := 8#32
  let v65 : BitVec 32 := Scalar.muli v12 c8_i32
  let v66 : Index := Scalar.indexCast v65
  let c0_25 : Index := 0#32
  ![v66.toNat, 0]
def k1_cond4 (i : grid1.Coords) : BitVec 1 :=
  let arg0 : BitVec 32 := BitVec.ofNat 32 (i 0).val
  let c31_i32 : BitVec 32 := 31#32
  let v9 : BitVec 1 := Scalar.cmpi .eq arg0 c31_i32
  let v10 : BitVec 32 := Scalar.extui v9
  let c0_i32_4 : BitVec 32 := 0#32
  let v11 : BitVec 1 := Scalar.cmpi .ne v10 c0_i32_4
  v11

def cc1_transform_0 (i : grid1.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2048x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1024x512 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S16x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== ReferenceIdeal.lean ====
abbrev S16x8x512x64 : Shape := ⟨4, ![16, 8, 512, 64]⟩
abbrev S16x8x512 : Shape := ⟨3, ![16, 8, 512]⟩
abbrev S64x256 : Shape := ⟨2, ![64, 256]⟩
abbrev S256 : Shape := ⟨1, ![256]⟩
abbrev S512x256 : Shape := ⟨2, ![512, 256]⟩
abbrev S256x256 : Shape := ⟨2, ![256, 256]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S65536x64 : Shape := ⟨2, ![65536, 64]⟩
abbrev S65536x256 : Shape := ⟨2, ![65536, 256]⟩
abbrev S_ : Shape := ⟨0, ![]⟩
abbrev S1x256 : Shape := ⟨2, ![1, 256]⟩
abbrev S16x8x512x256 : Shape := ⟨4, ![16, 8, 512, 256]⟩
abbrev S16x8x512x1 : Shape := ⟨4, ![16, 8, 512, 1]⟩
abbrev S16x8x256 : Shape := ⟨3, ![16, 8, 256]⟩
abbrev S16x8x1x256 : Shape := ⟨4, ![16, 8, 1, 256]⟩
abbrev S16x8x512x512 : Shape := ⟨4, ![16, 8, 512, 512]⟩
abbrev S65536x512 : Shape := ⟨2, ![65536, 512]⟩
abbrev S16x8 : Shape := ⟨2, ![16, 8]⟩
abbrev S1x1x256 : Shape := ⟨3, ![1, 1, 256]⟩
abbrev S16x8x1 : Shape := ⟨3, ![16, 8, 1]⟩
abbrev S16x2048 : Shape := ⟨2, ![16, 2048]⟩
abbrev S16x1024 : Shape := ⟨2, ![16, 1024]⟩
abbrev S1x1024 : Shape := ⟨2, ![1, 1024]⟩
abbrev S16x512 : Shape := ⟨2, ![16, 512]⟩
abbrev S1x512 : Shape := ⟨2, ![1, 512]⟩
abbrev S16x8x64 : Shape := ⟨3, ![16, 8, 64]⟩

abbrev nBuf : Space → Nat
  | .hbm => 222
  | .vmem => 0
  | .smem => 0
  | _ => 0

abbrev hbmTy0_0 (i : Nat) : BufTy := match i % 128 with
  | 0 => ⟨S16x8x512x64, .f32⟩
  | 1 => ⟨S16x8x512, .i1⟩
  | 2 => ⟨S64x256, .f32⟩
  | 3 => ⟨S256, .f32⟩
  | 4 => ⟨S256, .f32⟩
  | 5 => ⟨S512x256, .f32⟩
  | 6 => ⟨S256, .f32⟩
  | 7 => ⟨S256, .f32⟩
  | 8 => ⟨S256x256, .f32⟩
  | 9 => ⟨S256, .f32⟩
  | 10 => ⟨S256, .f32⟩
  | 11 => ⟨S256x256, .f32⟩
  | 12 => ⟨S256, .f32⟩
  | 13 => ⟨S256x256, .f32⟩
  | 14 => ⟨S256, .f32⟩
  | 15 => ⟨S2048x1024, .f32⟩
  | 16 => ⟨S1024, .f32⟩
  | 17 => ⟨S1024x512, .f32⟩
  | 18 => ⟨S512, .f32⟩
  | 19 => ⟨S65536x64, .f32⟩
  | 20 => ⟨S65536x256, .f32⟩
  | 21 => ⟨S_, .f32⟩
  | 22 => ⟨S256, .f32⟩
  | 23 => ⟨S_, .f32⟩
  | 24 => ⟨S256, .f32⟩
  | 25 => ⟨S256, .f32⟩
  | 26 => ⟨S_, .i32⟩
  | 27 => ⟨S_, .f32⟩
  | 28 => ⟨S256, .f32⟩
  | 29 => ⟨S1x256, .f32⟩
  | 30 => ⟨S_, .f32⟩
  | 31 => ⟨S1x256, .f32⟩
  | 32 => ⟨S1x256, .f32⟩
  | 33 => ⟨S65536x256, .f32⟩
  | 34 => ⟨S65536x256, .f32⟩
  | 35 => ⟨S65536x256, .f32⟩
  | 36 => ⟨S_, .f32⟩
  | 37 => ⟨S_, .f32⟩
  | 38 => ⟨S_, .f32⟩
  | 39 => ⟨S_, .f32⟩
  | 40 => ⟨S256, .f32⟩
  | 41 => ⟨S256, .f32⟩
  | 42 => ⟨S256, .f32⟩
  | 43 => ⟨S_, .f32⟩
  | 44 => ⟨S_, .i1⟩
  | 45 => ⟨S_, .f32⟩
  | 46 => ⟨S_, .f32⟩
  | 47 => ⟨S256, .f32⟩
  | 48 => ⟨S256, .f32⟩
  | 49 => ⟨S1x256, .f32⟩
  | 50 => ⟨S65536x256, .f32⟩
  | 51 => ⟨S65536x256, .f32⟩
  | 52 => ⟨S1x256, .f32⟩
  | 53 => ⟨S65536x256, .f32⟩
  | 54 => ⟨S65536x256, .f32⟩
  | 55 => ⟨S_, .f32⟩
  | 56 => ⟨S256, .f32⟩
  | 57 => ⟨S256, .f32⟩
  | 58 => ⟨S256, .f32⟩
  | 59 => ⟨S1x256, .f32⟩
  | 60 => ⟨S65536x256, .f32⟩
  | 61 => ⟨S65536x256, .f32⟩
  | 62 => ⟨S1x256, .f32⟩
  | 63 => ⟨S65536x256, .f32⟩
  | 64 => ⟨S65536x256, .f32⟩
  | 65 => ⟨S_, .f32⟩
  | 66 => ⟨S65536x256, .f32⟩
  | 67 => ⟨S65536x256, .f32⟩
  | 68 => ⟨S16x8x512x256, .f32⟩
  | 69 => ⟨S16x8x512x1, .i1⟩
  | 70 => ⟨S_, .f32⟩
  | 71 => ⟨S_, .f32⟩
  | 72 => ⟨S16x8x512x256, .i1⟩
  | 73 => ⟨S16x8x512x256, .f32⟩
  | 74 => ⟨S16x8x512x256, .f32⟩
  | 75 => ⟨S_, .f32⟩
  | 76 => ⟨S16x8x256, .f32⟩
  | 77 => ⟨S16x8x1x256, .f32⟩
  | 78 => ⟨S16x8x512x256, .f32⟩
  | 79 => ⟨S16x8x512x512, .f32⟩
  | 80 => ⟨S65536x512, .f32⟩
  | 81 => ⟨S65536x256, .f32⟩
  | 82 => ⟨S_, .f32⟩
  | 83 => ⟨S256, .f32⟩
  | 84 => ⟨S_, .f32⟩
  | 85 => ⟨S256, .f32⟩
  | 86 => ⟨S256, .f32⟩
  | 87 => ⟨S_, .i32⟩
  | 88 => ⟨S_, .f32⟩
  | 89 => ⟨S256, .f32⟩
  | 90 => ⟨S1x256, .f32⟩
  | 91 => ⟨S_, .f32⟩
  | 92 => ⟨S1x256, .f32⟩
  | 93 => ⟨S1x256, .f32⟩
  | 94 => ⟨S65536x256, .f32⟩
  | 95 => ⟨S65536x256, .f32⟩
  | 96 => ⟨S65536x256, .f32⟩
  | 97 => ⟨S_, .f32⟩
  | 98 => ⟨S_, .f32⟩
  | 99 => ⟨S_, .f32⟩
  | 100 => ⟨S_, .f32⟩
  | 101 => ⟨S256, .f32⟩
  | 102 => ⟨S256, .f32⟩
  | 103 => ⟨S256, .f32⟩
  | 104 => ⟨S_, .f32⟩
  | 105 => ⟨S_, .i1⟩
  | 106 => ⟨S_, .f32⟩
  | 107 => ⟨S_, .f32⟩
  | 108 => ⟨S256, .f32⟩
  | 109 => ⟨S256, .f32⟩
  | 110 => ⟨S1x256, .f32⟩
  | 111 => ⟨S65536x256, .f32⟩
  | 112 => ⟨S65536x256, .f32⟩
  | 113 => ⟨S1x256, .f32⟩
  | 114 => ⟨S65536x256, .f32⟩
  | 115 => ⟨S65536x256, .f32⟩
  | 116 => ⟨S_, .f32⟩
  | 117 => ⟨S256, .f32⟩
  | 118 => ⟨S256, .f32⟩
  | 119 => ⟨S256, .f32⟩
  | 120 => ⟨S1x256, .f32⟩
  | 121 => ⟨S65536x256, .f32⟩
  | 122 => ⟨S65536x256, .f32⟩
  | 123 => ⟨S1x256, .f32⟩
  | 124 => ⟨S65536x256, .f32⟩
  | 125 => ⟨S65536x256, .f32⟩
  | 126 => ⟨S_, .f32⟩
  | 127 => ⟨S65536x256, .f32⟩
  | _ => ⟨S16x8x512x64, .f32⟩

abbrev hbmTy0_1 (i : Nat) : BufTy := match i % 128 with
  | 0 => ⟨S65536x256, .f32⟩
  | 1 => ⟨S65536x256, .f32⟩
  | 2 => ⟨S_, .f32⟩
  | 3 => ⟨S256, .f32⟩
  | 4 => ⟨S_, .f32⟩
  | 5 => ⟨S256, .f32⟩
  | 6 => ⟨S256, .f32⟩
  | 7 => ⟨S_, .i32⟩
  | 8 => ⟨S_, .f32⟩
  | 9 => ⟨S256, .f32⟩
  | 10 => ⟨S1x256, .f32⟩
  | 11 => ⟨S_, .f32⟩
  | 12 => ⟨S1x256, .f32⟩
  | 13 => ⟨S1x256, .f32⟩
  | 14 => ⟨S65536x256, .f32⟩
  | 15 => ⟨S65536x256, .f32⟩
  | 16 => ⟨S65536x256, .f32⟩
  | 17 => ⟨S_, .f32⟩
  | 18 => ⟨S_, .f32⟩
  | 19 => ⟨S_, .f32⟩
  | 20 => ⟨S_, .f32⟩
  | 21 => ⟨S256, .f32⟩
  | 22 => ⟨S256, .f32⟩
  | 23 => ⟨S256, .f32⟩
  | 24 => ⟨S_, .f32⟩
  | 25 => ⟨S_, .i1⟩
  | 26 => ⟨S_, .f32⟩
  | 27 => ⟨S_, .f32⟩
  | 28 => ⟨S256, .f32⟩
  | 29 => ⟨S256, .f32⟩
  | 30 => ⟨S1x256, .f32⟩
  | 31 => ⟨S65536x256, .f32⟩
  | 32 => ⟨S65536x256, .f32⟩
  | 33 => ⟨S1x256, .f32⟩
  | 34 => ⟨S65536x256, .f32⟩
  | 35 => ⟨S65536x256, .f32⟩
  | 36 => ⟨S_, .f32⟩
  | 37 => ⟨S256, .f32⟩
  | 38 => ⟨S256, .f32⟩
  | 39 => ⟨S256, .f32⟩
  | 40 => ⟨S1x256, .f32⟩
  | 41 => ⟨S65536x256, .f32⟩
  | 42 => ⟨S65536x256, .f32⟩
  | 43 => ⟨S1x256, .f32⟩
  | 44 => ⟨S65536x256, .f32⟩
  | 45 => ⟨S65536x256, .f32⟩
  | 46 => ⟨S_, .f32⟩
  | 47 => ⟨S65536x256, .f32⟩
  | 48 => ⟨S65536x256, .f32⟩
  | 49 => ⟨S16x8x512x256, .f32⟩
  | 50 => ⟨S16x8x512x1, .i1⟩
  | 51 => ⟨S_, .f32⟩
  | 52 => ⟨S_, .f32⟩
  | 53 => ⟨S16x8x512x256, .i1⟩
  | 54 => ⟨S16x8x512x256, .f32⟩
  | 55 => ⟨S16x8x512x256, .f32⟩
  | 56 => ⟨S_, .f32⟩
  | 57 => ⟨S16x8x256, .f32⟩
  | 58 => ⟨S16x8x512, .i32⟩
  | 59 => ⟨S_, .i32⟩
  | 60 => ⟨S16x8, .i32⟩
  | 61 => ⟨S_, .i32⟩
  | 62 => ⟨S16x8, .i32⟩
  | 63 => ⟨S16x8, .i1⟩
  | 64 => ⟨S16x8x256, .f32⟩
  | 65 => ⟨S1x1x256, .f32⟩
  | 66 => ⟨S16x8x256, .f32⟩
  | 67 => ⟨S16x8x256, .f32⟩
  | 68 => ⟨S_, .f32⟩
  | 69 => ⟨S16x8x256, .f32⟩
  | 70 => ⟨S16x8x256, .f32⟩
  | 71 => ⟨S16x8x256, .f32⟩
  | 72 => ⟨S1x1x256, .f32⟩
  | 73 => ⟨S16x8x256, .f32⟩
  | 74 => ⟨S16x8x256, .f32⟩
  | 75 => ⟨S16x8x1, .i1⟩
  | 76 => ⟨S_, .f32⟩
  | 77 => ⟨S_, .f32⟩
  | 78 => ⟨S16x8x256, .i1⟩
  | 79 => ⟨S16x8x256, .f32⟩
  | 80 => ⟨S16x8x256, .f32⟩
  | 81 => ⟨S16x2048, .f32⟩
  | 82 => ⟨S16x1024, .f32⟩
  | 83 => ⟨S1x1024, .f32⟩
  | 84 => ⟨S16x1024, .f32⟩
  | 85 => ⟨S16x1024, .f32⟩
  | 86 => ⟨S_, .f32⟩
  | 87 => ⟨S16x1024, .f32⟩
  | 88 => ⟨S16x1024, .f32⟩
  | 89 => ⟨S16x512, .f32⟩
  | 90 => ⟨S1x512, .f32⟩
  | 91 => ⟨S16x512, .f32⟩
  | 92 => ⟨S16x512, .f32⟩
  | 93 => ⟨S16x8x64, .f32⟩
  | _ => ⟨S16x8x512x64, .f32⟩

abbrev hbmTy (i : Nat) : BufTy := match i / 128 with
  | 0 => hbmTy0_0 i
  | 1 => hbmTy0_1 i
  | _ => ⟨S16x8x512x64, .f32⟩

abbrev bufTy : (tb : Table) → Fin (tcTables nBuf tb) → BufTy
  | .hbm, ⟨i, _⟩ => hbmTy i
  | _, _ => ⟨S16x8x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst_1 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_call1_cst : Ref sig .tc := ⟨.hbm, 65, rfl⟩
abbrev main_call1_v0 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_2 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v24 : Ref sig .tc := ⟨.hbm, 74, rfl⟩
abbrev main_cst_3 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_4 : Ref sig .tc := ⟨.hbm, 82, rfl⟩
abbrev main_v31 : Ref sig .tc := ⟨.hbm, 83, rfl⟩
abbrev main_cst_5 : Ref sig .tc := ⟨.hbm, 84, rfl⟩
abbrev main_v32 : Ref sig .tc := ⟨.hbm, 85, rfl⟩
abbrev main_v33 : Ref sig .tc := ⟨.hbm, 86, rfl⟩
abbrev main_c_6 : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_cst_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_cst_1 : Ref sig .tc := ⟨.hbm, 98, rfl⟩
abbrev main_call3_v8 : Ref sig .tc := ⟨.hbm, 99, rfl⟩
abbrev main_call3_cst_2 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_cst_3 : Ref sig .tc := ⟨.hbm, 104, rfl⟩
abbrev main_call3_v12 : Ref sig .tc := ⟨.hbm, 105, rfl⟩
abbrev main_call3_cst_4 : Ref sig .tc := ⟨.hbm, 106, rfl⟩
abbrev main_call3_call0_v0 : Ref sig .tc := ⟨.hbm, 107, rfl⟩
abbrev main_call3_call0_v1 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_cst_7 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_call4_cst : Ref sig .tc := ⟨.hbm, 126, rfl⟩
abbrev main_call4_v0 : Ref sig .tc := ⟨.hbm, 127, rfl⟩
abbrev main_v50 : Ref sig .tc := ⟨.hbm, 128, rfl⟩
abbrev main_v51 : Ref sig .tc := ⟨.hbm, 129, rfl⟩
abbrev main_cst_8 : Ref sig .tc := ⟨.hbm, 130, rfl⟩
abbrev main_v52 : Ref sig .tc := ⟨.hbm, 131, rfl⟩
abbrev main_cst_9 : Ref sig .tc := ⟨.hbm, 132, rfl⟩
abbrev main_v53 : Ref sig .tc := ⟨.hbm, 133, rfl⟩
abbrev main_v54 : Ref sig .tc := ⟨.hbm, 134, rfl⟩
abbrev main_c_10 : Ref sig .tc := ⟨.hbm, 135, rfl⟩
abbrev main_call5_cst : Ref sig .tc := ⟨.hbm, 136, rfl⟩
abbrev main_call5_v0 : Ref sig .tc := ⟨.hbm, 137, rfl⟩
abbrev main_call5_v1 : Ref sig .tc := ⟨.hbm, 138, rfl⟩
abbrev main_call5_cst_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_v6 : Ref sig .tc := ⟨.hbm, 144, rfl⟩
abbrev main_call5_v7 : Ref sig .tc := ⟨.hbm, 145, rfl⟩
abbrev main_call5_cst_1 : Ref sig .tc := ⟨.hbm, 146, rfl⟩
abbrev main_call5_v8 : Ref sig .tc := ⟨.hbm, 147, rfl⟩
abbrev main_call5_cst_2 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_cst_3 : Ref sig .tc := ⟨.hbm, 152, rfl⟩
abbrev main_call5_v12 : Ref sig .tc := ⟨.hbm, 153, rfl⟩
abbrev main_call5_cst_4 : Ref sig .tc := ⟨.hbm, 154, rfl⟩
abbrev main_call5_call0_v0 : Ref sig .tc := ⟨.hbm, 155, rfl⟩
abbrev main_call5_call0_v1 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_cst_11 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_call6_cst : Ref sig .tc := ⟨.hbm, 174, rfl⟩
abbrev main_call6_v0 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_cst_12 : Ref sig .tc := ⟨.hbm, 179, rfl⟩
abbrev main_call7_v0 : Ref sig .tc := ⟨.hbm, 180, rfl⟩
abbrev main_call7_v1 : Ref sig .tc := ⟨.hbm, 181, rfl⟩
abbrev main_call7_v2 : Ref sig .tc := ⟨.hbm, 182, rfl⟩
abbrev main_v74 : Ref sig .tc := ⟨.hbm, 183, rfl⟩
abbrev main_cst_13 : Ref sig .tc := ⟨.hbm, 184, rfl⟩
abbrev main_v75 : Ref sig .tc := ⟨.hbm, 185, rfl⟩
abbrev main_v76 : Ref sig .tc := ⟨.hbm, 186, rfl⟩
abbrev main_c_14 : Ref sig .tc := ⟨.hbm, 187, rfl⟩
abbrev main_v77 : Ref sig .tc := ⟨.hbm, 188, rfl⟩
abbrev main_c_15 : Ref sig .tc := ⟨.hbm, 189, rfl⟩
abbrev main_v78 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_v82 : Ref sig .tc := ⟨.hbm, 194, rfl⟩
abbrev main_v83 : Ref sig .tc := ⟨.hbm, 195, rfl⟩
abbrev main_call8_cst : Ref sig .tc := ⟨.hbm, 196, rfl⟩
abbrev main_call8_v0 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_cst_16 : Ref sig .tc := ⟨.hbm, 204, rfl⟩
abbrev main_call9_v0 : Ref sig .tc := ⟨.hbm, 205, rfl⟩
abbrev main_call9_v1 : Ref sig .tc := ⟨.hbm, 206, rfl⟩
abbrev main_call9_v2 : Ref sig .tc := ⟨.hbm, 207, rfl⟩
abbrev main_v90 : Ref sig .tc := ⟨.hbm, 208, rfl⟩
abbrev main_v91 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_call10_cst : Ref sig .tc := ⟨.hbm, 214, rfl⟩
abbrev main_call10_v0 : Ref sig .tc := ⟨.hbm, 215, rfl⟩
abbrev main_v96 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩

abbrev nD : Nat := 1
abbrev τ : Topo := Topo.v7x

variable {F : FTy → Type} [FloatOps F]
-- ==== Proof.Ideal.Base.lean ====
/-
  What the two launches' bodies share: reading back a buffer whose last store covers it, and the branch conditions of the two bodies.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a rank-two rectangle that starts at the origin. -/
theorem zero2 : (![0, 0] : Fin 2 → Nat) = fun _ => 0 := funext fun a => by fin_cases a <;> rfl

/-- The offset of a rank-four rectangle that starts at the origin. -/
theorem zero4 : (![0, 0, 0, 0] : Fin 4 → Nat) = fun _ => 0 := funext fun a => by fin_cases a <;> rfl

/-- A buffer whose last store covers it reads that store's payload. -/
theorem read_full {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, View.mem_set_unit_zero h inb y⟩,
    View.canon_cons_unit_zero h]

/-- The first launch: the first point. -/
abbrev first0 (i : grid0.Coords) : Prop :=
  (Scalar.cmpi .ne (Scalar.extui (Scalar.cmpi .eq (BitVec.ofNat 32 (i 0).val) 0#32)) 0#32) = 1#1
/-- The first launch: the first sweep over the rows. -/
abbrev sweepA0 (i : grid0.Coords) : Prop :=
  (Scalar.cmpi .ne (Scalar.extui (Scalar.cmpi .slt (BitVec.ofNat 32 (i 0).val) 8#32)) 0#32) = 1#1
/-- The first launch: the second sweep over the rows. -/
abbrev sweepB0 (i : grid0.Coords) : Prop := k0_cond3 i = 1#1
/-- The first launch: the last point. -/
abbrev last0 (i : grid0.Coords) : Prop := k0_cond4 i = 1#1
/-- The second launch: the first point. -/
abbrev first1 (i : grid1.Coords) : Prop :=
  (Scalar.cmpi .ne (Scalar.extui (Scalar.cmpi .eq (BitVec.ofNat 32 (i 0).val) 0#32)) 0#32) = 1#1
/-- The second launch: the first sweep over the rows. -/
abbrev sweepA1 (i : grid1.Coords) : Prop := k1_cond2 i = 1#1
/-- The second launch: the second sweep over the rows. -/
abbrev sweepB1 (i : grid1.Coords) : Prop := k1_cond3 i = 1#1
/-- The second launch: the last point. -/
abbrev last1 (i : grid1.Coords) : Prop := k1_cond4 i = 1#1

end Cert.KernelIdeal.Own

end
-- ==== Proof.Ideal.Sched.lean ====
/-
  When the two launches' conditions hold along their grids, and when their output windows stay idle.
-/
module

public import proofs.«01_k».proof.Proof.Ideal.Base

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The first point. -/
theorem first0_iff : ∀ t : Fin cfg0.N, first0 (grid0.coords t) ↔ t.val = 0 :=
  (by decide +kernel : ∀ t : Fin grid0.N, first0 (grid0.coords t) ↔ t.val = 0)
/-- The first sweep. -/
theorem sweepA0_iff : ∀ t : Fin cfg0.N, sweepA0 (grid0.coords t) ↔ t.val < 8 :=
  (by decide +kernel : ∀ t : Fin grid0.N, sweepA0 (grid0.coords t) ↔ t.val < 8)
/-- The second sweep. -/
theorem sweepB0_iff : ∀ t : Fin cfg0.N, sweepB0 (grid0.coords t) ↔ 8 ≤ t.val :=
  (by decide +kernel : ∀ t : Fin grid0.N, sweepB0 (grid0.coords t) ↔ 8 ≤ t.val)
/-- The last point. -/
theorem last0_iff : ∀ t : Fin cfg0.N, last0 (grid0.coords t) ↔ t.val = 15 :=
  (by decide +kernel : ∀ t : Fin grid0.N, last0 (grid0.coords t) ↔ t.val = 15)
/-- The first point. -/
theorem first1_iff : ∀ t : Fin cfg1.N, first1 (grid1.coords t) ↔ t.val = 0 :=
  (by decide +kernel : ∀ t : Fin grid1.N, first1 (grid1.coords t) ↔ t.val = 0)
/-- The first sweep. -/
theorem sweepA1_iff : ∀ t : Fin cfg1.N, sweepA1 (grid1.coords t) ↔ t.val < 16 :=
  (by decide +kernel : ∀ t : Fin grid1.N, sweepA1 (grid1.coords t) ↔ t.val < 16)
/-- The second sweep. -/
theorem sweepB1_iff : ∀ t : Fin cfg1.N, sweepB1 (grid1.coords t) ↔ 16 ≤ t.val :=
  (by decide +kernel : ∀ t : Fin grid1.N, sweepB1 (grid1.coords t) ↔ 16 ≤ t.val)
/-- The last point. -/
theorem last1_iff : ∀ t : Fin cfg1.N, last1 (grid1.coords t) ↔ t.val = 31 :=
  (by decide +kernel : ∀ t : Fin grid1.N, last1 (grid1.coords t) ↔ t.val = 31)
/-- The rows' window is idle in the first sweep, -/
theorem idle0_6 : ∀ t : Fin cfg0.N, t.val < 8 → cfg0.idle 6 (grid0.coords t) = true := by decide +kernel
/-- nothing is written back of it there, -/
theorem stay0_6 : ∀ t : Fin cfg0.N, t.val < 8 → (cfg0.win 6).flush t = false := by decide +kernel
/-- and it is live in the second. -/
theorem live0_6 : ∀ t : Fin cfg0.N, 8 ≤ t.val → cfg0.idle 6 (grid0.coords t) = false := by decide +kernel
/-- The sums' window is idle before the last point, -/
theorem idle0_7 : ∀ t : Fin cfg0.N, t.val < 15 → cfg0.idle 7 (grid0.coords t) = true := by decide +kernel
/-- nothing is written back of it there, -/
theorem stay0_7 : ∀ t : Fin cfg0.N, t.val < 15 → (cfg0.win 7).flush t = false := by decide +kernel
/-- and it is live at the last. -/
theorem live0_7 : ∀ t : Fin cfg0.N, t.val = 15 → cfg0.idle 7 (grid0.coords t) = false := by decide +kernel
/-- The second launch's result window is idle before the last point, -/
theorem idle1_15 : ∀ t : Fin cfg1.N, t.val < 31 → cfg1.idle 15 (grid1.coords t) = true := by decide +kernel
/-- nothing is written back of it there, -/
theorem stay1_15 : ∀ t : Fin cfg1.N, t.val < 31 → (cfg1.win 15).flush t = false := by decide +kernel
/-- and it is live at the last. -/
theorem live1_15 : ∀ t : Fin cfg1.N, t.val = 31 → cfg1.idle 15 (grid1.coords t) = false := by decide +kernel

/-- The first launch's point number `n`. -/
def pt0 (n : ℕ) : Fin cfg0.N := ⟨n % 16, lt_of_lt_of_eq (Nat.mod_lt _ (by decide)) N_0.symm⟩
/-- The second launch's point number `n`. -/
def pt1 (n : ℕ) : Fin cfg1.N := ⟨n % 32, lt_of_lt_of_eq (Nat.mod_lt _ (by decide)) N_1.symm⟩

theorem lt0 (t : Fin cfg0.N) : t.val < 16 := lt_of_lt_of_eq t.isLt N_0
theorem lt1 (t : Fin cfg1.N) : t.val < 32 := lt_of_lt_of_eq t.isLt N_1
theorem pt0_val (t : Fin cfg0.N) : pt0 t.val = t := Fin.ext (Nat.mod_eq_of_lt (lt0 t))
theorem pt1_val (t : Fin cfg1.N) : pt1 t.val = t := Fin.ext (Nat.mod_eq_of_lt (lt1 t))

end Cert.KernelIdeal.Own

end
-- ==== Proof.Ideal.Body0A.lean ====
/-
  The first launch's body at a point of its first sweep.
-/
module

public import proofs.«01_k».proof.Proof.Ideal.Base

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The first launch's body at its first point: the four running sums start at zero, the first two take the block's column sums and sums of squares. -/
theorem body0_first (c : Dev nD) (i : grid0.Coords) (arg1 : Memref sig .tc .vmem S2x8x512x64 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S8192x256 .f32) (harg7 : arg7.IsWhole) (arg8 : Memref sig .tc .vmem S2x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole)
    (hc0 : first0 i) (hc1 : sweepA0 i) (hc2 : ¬ sweepB0 i) (hc3 : ¬ last0 i)
    (x : Vec F S2x8x512x64 .f32) (g : Vec F S1x256 .f32) (b : Vec F S1x256 .f32) (w : Vec F S64x256 .bf16) (wa : Vec F S256x256 .bf16) (wb : Vec F S256x256 .bf16) (y : Vec F S8192x256 .f32) (z : Vec F S2x256 .f32) (E : Set ℕ) (K : PUnit → sProp 𝕄) :
    iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare wa ∗ owns (c : Thread nD τ) arg6 fullShare wb ∗ owns (c : Thread nD τ) arg7 fullShare y ∗ owns (c : Thread nD τ) arg8 fullShare z ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare wa ∗ owns (c : Thread nD τ) arg6 fullShare wb ∗ owns (c : Thread nD τ) arg7 fullShare y ∗ owns (c : Thread nD τ) arg8 fullShare z ∗ owns (c : Thread nD τ) arg9 fullShare (k0_pay6 x w k0_pay1) ∗ owns (c : Thread nD τ) arg10 fullShare (k0_pay7 x w k0_pay2) ∗ owns (c : Thread nD τ) arg11 fullShare k0_pay3 ∗ owns (c : Thread nD τ) arg12 fullShare k0_pay4) -∗ K ⟨⟩))
    ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12) K := by
  simp only [cc0__k1_body_eq_skeleton]; unfold cc0__k1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [read_full _ _ zero2]
    sl_unfold_words
    simp only [View.readAt_eq_ld, View.readCov_unit_zero (S := S1x256) _ zero2, harg1.read_unread, harg4.read_unread, View.ld_unit_zero (S := S1x256) zero2, View.ld_unit_zero (S := S64x256) zero2, View.ld_unit_zero (S := S2x8x512x64) zero4]
  isplitl [H10]
  · iexists _; isplitr; swap; · iexact H10
    ipureintro
    rw [read_full _ _ zero2]
    sl_unfold_words
    simp only [View.readAt_eq_ld, View.readCov_unit_zero (S := S1x256) _ zero2, harg1.read_unread, harg4.read_unread, View.ld_unit_zero (S := S1x256) zero2, View.ld_unit_zero (S := S64x256) zero2, View.ld_unit_zero (S := S2x8x512x64) zero4]
  isplitl [H11]
  · iexists _; isplitr; swap; · iexact H11
    ipureintro
    rw [read_full _ _ zero2]
  · iexists _; isplitr; swap; · iexact H12
    ipureintro
    rw [read_full _ _ zero2]

set_option maxHeartbeats 1600000 in
/-- The first launch's body at a later point of its first sweep: the first two running sums take the block's column sums and sums of squares. -/
theorem body0_sweepA (c : Dev nD) (i : grid0.Coords) (arg1 : Memref sig .tc .vmem S2x8x512x64 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S8192x256 .f32) (harg7 : arg7.IsWhole) (arg8 : Memref sig .tc .vmem S2x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole)
    (hc0 : ¬ first0 i) (hc1 : sweepA0 i) (hc2 : ¬ sweepB0 i) (hc3 : ¬ last0 i)
    (x : Vec F S2x8x512x64 .f32) (g : Vec F S1x256 .f32) (b : Vec F S1x256 .f32) (w : Vec F S64x256 .bf16) (wa : Vec F S256x256 .bf16) (wb : Vec F S256x256 .bf16) (y : Vec F S8192x256 .f32) (z : Vec F S2x256 .f32) (s0 : Vec F S1x256 .f32) (q0 : Vec F S1x256 .f32) (s1 : Vec F S1x256 .f32) (q1 : Vec F S1x256 .f32) (E : Set ℕ) (K : PUnit → sProp 𝕄) :
    iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare wa ∗ owns (c : Thread nD τ) arg6 fullShare wb ∗ owns (c : Thread nD τ) arg7 fullShare y ∗ owns (c : Thread nD τ) arg8 fullShare z ∗ owns (c : Thread nD τ) arg9 fullShare s0 ∗ owns (c : Thread nD τ) arg10 fullShare q0 ∗ owns (c : Thread nD τ) arg11 fullShare s1 ∗ owns (c : Thread nD τ) arg12 fullShare q1
      ∗ (iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare wa ∗ owns (c : Thread nD τ) arg6 fullShare wb ∗ owns (c : Thread nD τ) arg7 fullShare y ∗ owns (c : Thread nD τ) arg8 fullShare z ∗ owns (c : Thread nD τ) arg9 fullShare (k0_pay6 x w s0) ∗ owns (c : Thread nD τ) arg10 fullShare (k0_pay7 x w q0) ∗ owns (c : Thread nD τ) arg11 fullShare s1 ∗ owns (c : Thread nD τ) arg12 fullShare q1) -∗ K ⟨⟩))
    ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12) K := by
  simp only [cc0__k1_body_eq_skeleton]; unfold cc0__k1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [read_full _ _ zero2]
    sl_unfold_words
    simp only [View.readAt_eq_ld, View.readCov_unit_zero (S := S1x256) _ zero2, harg1.read_unread, harg4.read_unread, harg9.read_unread, View.ld_unit_zero (S := S1x256) zero2, View.ld_unit_zero (S := S64x256) zero2, View.ld_unit_zero (S := S2x8x512x64) zero4]
  isplitl [H10]
  · iexists _; isplitr; swap; · iexact H10
    ipureintro
    rw [read_full _ _ zero2]
    sl_unfold_words
    simp only [View.readAt_eq_ld, View.readCov_unit_zero (S := S1x256) _ zero2, harg1.read_unread, harg4.read_unread, harg10.read_unread, View.ld_unit_zero (S := S1x256) zero2, View.ld_unit_zero (S := S64x256) zero2, View.ld_unit_zero (S := S2x8x512x64) zero4]
  isplitl [H11]
  · iexists _; isplitr; · ipureintro; exact harg11.read_unread _
    iexact H11
  · iexists _; isplitr; · ipureintro; exact harg12.read_unread _
    iexact H12

end Cert.KernelIdeal.Own

end
-- ==== Proof.Ideal.Block1.lean ====
/-
  What the first launch's second sweep computes of one block of 8192 rows: sixteen segments of 512 rows, each through the second dense layer, their column sums and sums of squares.
-/
module

public import proofs.«01_k».proof.Proof.Ideal.Body0A
public import Idealize.ShloMosaic.Lib.Pipeline.ValueKit.Tiles
public import Idealize.ShloMosaic.Lib.ValueIdx

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Segment `n` of a block starts at row `512 n`. -/
theorem seg_slices (n : Fin 16) : S8192x256.Slices ![512 * n.val, 0] S512x256 := by
  revert n; decide

/-- Segment `n mod 16` of a block through the second layer: its rows by the upper half of the weights plus its column maxima by the
    lower half. -/
def seg (h : FVec F S8192x256 .bf16) (wa wb : Vec F S256x256 .bf16) (n : Nat) : FVec F S512x256 .f32 :=
  k0_pay20 (extractStridedSlice S512x256 ![512 * (n % 16), 0] h (seg_slices ⟨n % 16, Nat.mod_lt _ (by decide)⟩)) wa wb

/-- Column sums of a segment, as one row. -/
def colSum (v : FVec F S512x256 .f32) : FVec F S1x256 .f32 :=
  shapeCast S1x256 (multiReduction .add [0] S256 v 0x00000000#32 reduces_S512x256_S256 (.inl rfl) rfl) shapeCasts_S256_S1x256

/-- The first `n` segments' column sums, added up in order from zero. -/
def segSum (h : FVec F S8192x256 .bf16) (wa wb : Vec F S256x256 .bf16) : Nat → FVec F S1x256 .f32
  | 0 => constant S1x256 .f32 0x00000000#32
  | n + 1 => addf (segSum h wa wb n) (colSum (seg h wa wb n))

/-- The first `n` segments' column sums of squares, added up in order from zero. -/
def segSq (h : FVec F S8192x256 .bf16) (wa wb : Vec F S256x256 .bf16) : Nat → FVec F S1x256 .f32
  | 0 => constant S1x256 .f32 0x00000000#32
  | n + 1 => addf (segSq h wa wb n) (colSum (mulf (seg h wa wb n) (seg h wa wb n)))

/-- The running sums after a block. -/
def addSum (h : FVec F S8192x256 .bf16) (wa wb : Vec F S256x256 .bf16) (s : Vec F S1x256 .f32) : FVec F S1x256 .f32 :=
  shapeCast S1x256 (addf s (segSum h wa wb 16)) shapeCasts_S1x256_S1x256

/-- The running sums of squares after a block. -/
def addSq (h : FVec F S8192x256 .bf16) (wa wb : Vec F S256x256 .bf16) (q : Vec F S1x256 .f32) : FVec F S1x256 .f32 :=
  shapeCast S1x256 (addf q (segSq h wa wb 16)) shapeCasts_S1x256_S1x256

/-- A block through the second layer: its sixteen segments one under the other. -/
def block1 (h : FVec F S8192x256 .bf16) (wa wb : Vec F S256x256 .bf16) : Vec F S8192x256 .f32 :=
  fun y => seg h wa wb ((y 0).val / 512) (ValueIdx.ix2 ⟨(y 0).val % 512, Nat.mod_lt _ (by decide)⟩ (y 1))

/-- A store of segment `n` at its rows agrees with the block. -/
theorem block1_tile (h : FVec F S8192x256 .bf16) (wa wb : Vec F S256x256 .bf16) (y : S8192x256.Idx) (n : Nat)
    (w : (⟨2, ![512, 256]⟩ : Shape).Idx → Elt F .f32) (hw : w = seg h wa wb n) :
    View.TileAt y ![512 * n, 0] ![512, 256] w (block1 h wa wb y) := by
  subst hw
  intro x hx
  have h0 : (y 0).val = 512 * n + (x 0).val := hx 0
  have h1 : (y 1).val = 0 + (x 1).val := hx 1
  have hx0 : (x 0).val < 512 := (x 0).isLt
  unfold block1
  rw [show (y 0).val / 512 = n by omega]
  refine congrArg _ (funext fun a => ?_)
  match a with
  | ⟨0, _⟩ => exact Fin.ext (show (x 0).val = (y 0).val % 512 by omega)
  | ⟨1, _⟩ => exact Fin.ext (show (x 1).val = (y 1).val by omega)

/-- Two rows one under the other. -/
def rows2 (s q : Vec F S1x256 .f32) : Vec F S2x256 .f32 :=
  fun y => if (y 0).val = 0 then s (ValueIdx.ix2 0 (y 1)) else q (ValueIdx.ix2 0 (y 1))

/-- A store of the upper row agrees with the two rows, -/
theorem rows2_tile0 (s q : Vec F S1x256 .f32) (y : S2x256.Idx) (w : (⟨2, ![1, 256]⟩ : Shape).Idx → Elt F .f32) (hw : w = s) :
    View.TileAt y ![0, 0] ![1, 256] w (rows2 s q y) := by
  subst hw
  intro x hx
  have h0 : (y 0).val = 0 + (x 0).val := hx 0
  have h1 : (y 1).val = 0 + (x 1).val := hx 1
  have hx0 : (x 0).val < 1 := (x 0).isLt
  unfold rows2
  rw [if_pos (by omega)]
  refine congrArg _ (funext fun a => ?_)
  match a with
  | ⟨0, _⟩ => exact Fin.ext (show (x 0).val = 0 by omega)
  | ⟨1, _⟩ => exact Fin.ext (show (x 1).val = (y 1).val by omega)

/-- and a store of the lower row. -/
theorem rows2_tile1 (s q : Vec F S1x256 .f32) (y : S2x256.Idx) (w : (⟨2, ![1, 256]⟩ : Shape).Idx → Elt F .f32) (hw : w = q) :
    View.TileAt y ![1, 0] ![1, 256] w (rows2 s q y) := by
  subst hw
  intro x hx
  have h0 : (y 0).val = 1 + (x 0).val := hx 0
  have h1 : (y 1).val = 0 + (x 1).val := hx 1
  have hx0 : (x 0).val < 1 := (x 0).isLt
  unfold rows2
  rw [if_neg (by omega)]
  refine congrArg _ (funext fun a => ?_)
  match a with
  | ⟨0, _⟩ => exact Fin.ext (show (x 0).val = 0 by omega)
  | ⟨1, _⟩ => exact Fin.ext (show (x 1).val = (y 1).val by omega)

end Cert.KernelIdeal.Own

end
-- ==== Proof.Ideal.Body0B.lean ====
/-
  The first launch's body at a point of its second sweep.
-/
module

public import proofs.«01_k».proof.Proof.Ideal.Block1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The first launch's body at a point of its second sweep but the last: the block through both layers is stored, the last two running sums take its column sums and sums of squares. -/
theorem body0_sweepB (c : Dev nD) (i : grid0.Coords) (arg1 : Memref sig .tc .vmem S2x8x512x64 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S8192x256 .f32) (harg7 : arg7.IsWhole) (arg8 : Memref sig .tc .vmem S2x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole)
    (hc0 : ¬ first0 i) (hc1 : ¬ sweepA0 i) (hc2 : sweepB0 i) (hc3 : ¬ last0 i)
    (x : Vec F S2x8x512x64 .f32) (g : Vec F S1x256 .f32) (b : Vec F S1x256 .f32) (w : Vec F S64x256 .bf16) (wa : Vec F S256x256 .bf16) (wb : Vec F S256x256 .bf16) (z : Vec F S2x256 .f32) (s0 : Vec F S1x256 .f32) (q0 : Vec F S1x256 .f32) (s1 : Vec F S1x256 .f32) (q1 : Vec F S1x256 .f32) (E : Set ℕ) (K : PUnit → sProp 𝕄) :
    iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare wa ∗ owns (c : Thread nD τ) arg6 fullShare wb ∗ (∃ d, owns (c : Thread nD τ) arg7 fullShare d) ∗ owns (c : Thread nD τ) arg8 fullShare z ∗ owns (c : Thread nD τ) arg9 fullShare s0 ∗ owns (c : Thread nD τ) arg10 fullShare q0 ∗ owns (c : Thread nD τ) arg11 fullShare s1 ∗ owns (c : Thread nD τ) arg12 fullShare q1
      ∗ (iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare wa ∗ owns (c : Thread nD τ) arg6 fullShare wb ∗ owns (c : Thread nD τ) arg7 fullShare (block1 (k0_pay10 s0 q0 g b w x) wa wb) ∗ owns (c : Thread nD τ) arg8 fullShare z ∗ owns (c : Thread nD τ) arg9 fullShare s0 ∗ owns (c : Thread nD τ) arg10 fullShare q0 ∗ owns (c : Thread nD τ) arg11 fullShare (addSum (k0_pay10 s0 q0 g b w x) wa wb s1) ∗ owns (c : Thread nD τ) arg12 fullShare (addSq (k0_pay10 s0 q0 g b w x) wa wb q1)) -∗ K ⟨⟩))
    ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12) K := by
  simp only [cc0__k1_body_eq_skeleton]; unfold cc0__k1_body_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    rw [View.read_writes_eq_canon _ _ _ (View.cover_of_tiled_head _ _ _ (by sl_kernel_rfl))]
    sl_unfold_words
    simp only [View.readAt_eq_ld, View.readCov_unit_zero (S := S1x256) _ zero2, harg1.read_unread, harg2.read_unread, harg3.read_unread, harg4.read_unread, harg5.read_unread, harg6.read_unread, harg9.read_unread, harg10.read_unread, harg11.read_unread, harg12.read_unread, View.ld_unit_zero (S := S1x256) zero2, View.ld_unit_zero (S := S64x256) zero2, View.ld_unit_zero (S := S256x256) zero2, View.ld_unit_zero (S := S2x8x512x64) zero4]
    try dsimp only [k0_pay14, k0_pay13]
    generalize k0_pay10 s0 q0 g b w x = h
    funext y
    exact View.canon_eq_of_allAt _ y _ (View.cover_of_tiled_head _ _ _ (by sl_kernel_rfl) y)
      (View.allAt_cons_unit _ _ _ _ _ (block1_tile _ wa wb y 15 _ rfl)
          (View.allAt_cons_unit _ _ _ _ _ (block1_tile _ wa wb y 14 _ rfl)
          (View.allAt_cons_unit _ _ _ _ _ (block1_tile _ wa wb y 13 _ rfl)
          (View.allAt_cons_unit _ _ _ _ _ (block1_tile _ wa wb y 12 _ rfl)
          (View.allAt_cons_unit _ _ _ _ _ (block1_tile _ wa wb y 11 _ rfl)
          (View.allAt_cons_unit _ _ _ _ _ (block1_tile _ wa wb y 10 _ rfl)
          (View.allAt_cons_unit _ _ _ _ _ (block1_tile _ wa wb y 9 _ rfl)
          (View.allAt_cons_unit _ _ _ _ _ (block1_tile _ wa wb y 8 _ rfl)
          (View.allAt_cons_unit _ _ _ _ _ (block1_tile _ wa wb y 7 _ rfl)
          (View.allAt_cons_unit _ _ _ _ _ (block1_tile _ wa wb y 6 _ rfl)
          (View.allAt_cons_unit _ _ _ _ _ (block1_tile _ wa wb y 5 _ rfl)
          (View.allAt_cons_unit _ _ _ _ _ (block1_tile _ wa wb y 4 _ rfl)
          (View.allAt_cons_unit _ _ _ _ _ (block1_tile _ wa wb y 3 _ rfl)
          (View.allAt_cons_unit _ _ _ _ _ (block1_tile _ wa wb y 2 _ rfl)
          (View.allAt_cons_unit _ _ _ _ _ (block1_tile _ wa wb y 1 _ rfl)
          (View.allAt_cons_unit _ _ _ _ _ (block1_tile _ wa wb y 0 _ rfl)
          (View.allAt_nil _ _)))))))))))))))))
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    sl_unfold_words
    rw [read_full _ _ zero2]
    simp only [View.readAt_eq_ld, View.readCov_unit_zero (S := S1x256) _ zero2, harg1.read_unread, harg2.read_unread, harg3.read_unread, harg4.read_unread, harg5.read_unread, harg6.read_unread, harg9.read_unread, harg10.read_unread, harg11.read_unread, harg12.read_unread, View.ld_unit_zero (S := S1x256) zero2, View.ld_unit_zero (S := S64x256) zero2, View.ld_unit_zero (S := S256x256) zero2, View.ld_unit_zero (S := S2x8x512x64) zero4]
    try dsimp only [k0_pay14, k0_pay13]
    generalize k0_pay10 s0 q0 g b w x = h
    rfl
  · iexists _; isplitr; swap; · iexact H12
    ipureintro
    sl_unfold_words
    rw [read_full _ _ zero2]
    simp only [View.readAt_eq_ld, View.readCov_unit_zero (S := S1x256) _ zero2, harg1.read_unread, harg2.read_unread, harg3.read_unread, harg4.read_unread, harg5.read_unread, harg6.read_unread, harg9.read_unread, harg10.read_unread, harg11.read_unread, harg12.read_unread, View.ld_unit_zero (S := S1x256) zero2, View.ld_unit_zero (S := S64x256) zero2, View.ld_unit_zero (S := S256x256) zero2, View.ld_unit_zero (S := S2x8x512x64) zero4]
    try dsimp only [k0_pay14, k0_pay13]
    generalize k0_pay10 s0 q0 g b w x = h
    rfl

end Cert.KernelIdeal.Own

end
-- ==== Proof.Ideal.Body0C.lean ====
/-
  The first launch's body at its last point.
-/
module

public import proofs.«01_k».proof.Proof.Ideal.Body0B

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The first launch's body at its last point: as the points before it, and the last two running sums are stored as the two rows of the second result. -/
theorem body0_last (c : Dev nD) (i : grid0.Coords) (arg1 : Memref sig .tc .vmem S2x8x512x64 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S8192x256 .f32) (harg7 : arg7.IsWhole) (arg8 : Memref sig .tc .vmem S2x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole)
    (hc0 : ¬ first0 i) (hc1 : ¬ sweepA0 i) (hc2 : sweepB0 i) (hc3 : last0 i)
    (x : Vec F S2x8x512x64 .f32) (g : Vec F S1x256 .f32) (b : Vec F S1x256 .f32) (w : Vec F S64x256 .bf16) (wa : Vec F S256x256 .bf16) (wb : Vec F S256x256 .bf16) (s0 : Vec F S1x256 .f32) (q0 : Vec F S1x256 .f32) (s1 : Vec F S1x256 .f32) (q1 : Vec F S1x256 .f32) (E : Set ℕ) (K : PUnit → sProp 𝕄) :
    iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare wa ∗ owns (c : Thread nD τ) arg6 fullShare wb ∗ (∃ d, owns (c : Thread nD τ) arg7 fullShare d) ∗ (∃ d, owns (c : Thread nD τ) arg8 fullShare d) ∗ owns (c : Thread nD τ) arg9 fullShare s0 ∗ owns (c : Thread nD τ) arg10 fullShare q0 ∗ owns (c : Thread nD τ) arg11 fullShare s1 ∗ owns (c : Thread nD τ) arg12 fullShare q1
      ∗ (iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare wa ∗ owns (c : Thread nD τ) arg6 fullShare wb ∗ owns (c : Thread nD τ) arg7 fullShare (block1 (k0_pay10 s0 q0 g b w x) wa wb) ∗ owns (c : Thread nD τ) arg8 fullShare (rows2 (addSum (k0_pay10 s0 q0 g b w x) wa wb s1) (addSq (k0_pay10 s0 q0 g b w x) wa wb q1)) ∗ owns (c : Thread nD τ) arg9 fullShare s0 ∗ owns (c : Thread nD τ) arg10 fullShare q0 ∗ owns (c : Thread nD τ) arg11 fullShare (addSum (k0_pay10 s0 q0 g b w x) wa wb s1) ∗ owns (c : Thread nD τ) arg12 fullShare (addSq (k0_pay10 s0 q0 g b w x) wa wb q1)) -∗ K ⟨⟩))
    ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12) K := by
  simp only [cc0__k1_body_eq_skeleton]; unfold cc0__k1_body_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg9.eq_unread hf9
  obtain rfl := harg10.eq_unread hf10
  obtain rfl := harg11.eq_unread hf11
  obtain rfl := harg12.eq_unread hf12
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    rw [View.read_writes_eq_canon _ _ _ (View.cover_of_tiled_head _ _ _ (by sl_kernel_rfl))]
    sl_unfold_words
    simp only [View.readAt_eq_ld, View.readCov_unit_zero (S := S1x256) _ zero2, harg1.read_unread, harg2.read_unread, harg3.read_unread, harg4.read_unread, harg5.read_unread, harg6.read_unread, harg9.read_unread, harg10.read_unread, harg11.read_unread, harg12.read_unread, View.ld_unit_zero (S := S1x256) zero2, View.ld_unit_zero (S := S64x256) zero2, View.ld_unit_zero (S := S256x256) zero2, View.ld_unit_zero (S := S2x8x512x64) zero4]
    try dsimp only [k0_pay14, k0_pay13]
    generalize k0_pay10 s0 q0 g b w x = h
    funext y
    exact View.canon_eq_of_allAt _ y _ (View.cover_of_tiled_head _ _ _ (by sl_kernel_rfl) y)
      (View.allAt_cons_unit _ _ _ _ _ (block1_tile _ wa wb y 15 _ rfl)
          (View.allAt_cons_unit _ _ _ _ _ (block1_tile _ wa wb y 14 _ rfl)
          (View.allAt_cons_unit _ _ _ _ _ (block1_tile _ wa wb y 13 _ rfl)
          (View.allAt_cons_unit _ _ _ _ _ (block1_tile _ wa wb y 12 _ rfl)
          (View.allAt_cons_unit _ _ _ _ _ (block1_tile _ wa wb y 11 _ rfl)
          (View.allAt_cons_unit _ _ _ _ _ (block1_tile _ wa wb y 10 _ rfl)
          (View.allAt_cons_unit _ _ _ _ _ (block1_tile _ wa wb y 9 _ rfl)
          (View.allAt_cons_unit _ _ _ _ _ (block1_tile _ wa wb y 8 _ rfl)
          (View.allAt_cons_unit _ _ _ _ _ (block1_tile _ wa wb y 7 _ rfl)
          (View.allAt_cons_unit _ _ _ _ _ (block1_tile _ wa wb y 6 _ rfl)
          (View.allAt_cons_unit _ _ _ _ _ (block1_tile _ wa wb y 5 _ rfl)
          (View.allAt_cons_unit _ _ _ _ _ (block1_tile _ wa wb y 4 _ rfl)
          (View.allAt_cons_unit _ _ _ _ _ (block1_tile _ wa wb y 3 _ rfl)
          (View.allAt_cons_unit _ _ _ _ _ (block1_tile _ wa wb y 2 _ rfl)
          (View.allAt_cons_unit _ _ _ _ _ (block1_tile _ wa wb y 1 _ rfl)
          (View.allAt_cons_unit _ _ _ _ _ (block1_tile _ wa wb y 0 _ rfl)
          (View.allAt_nil _ _)))))))))))))))))
  isplitl [H8]
  · iexists _; isplitr; swap; · iexact H8
    ipureintro
    rw [View.read_writes_eq_canon _ _ _ (View.cover_of_tiled_head _ _ _ (by sl_kernel_rfl))]
    sl_unfold_words
    simp only [View.readAt_eq_ld, View.readCov_unit_zero (S := S1x256) _ zero2, harg1.read_unread, harg2.read_unread, harg3.read_unread, harg4.read_unread, harg5.read_unread, harg6.read_unread, harg9.read_unread, harg10.read_unread, harg11.read_unread, harg12.read_unread, View.ld_unit_zero (S := S1x256) zero2, View.ld_unit_zero (S := S64x256) zero2, View.ld_unit_zero (S := S256x256) zero2, View.ld_unit_zero (S := S2x8x512x64) zero4]
    try dsimp only [k0_pay14, k0_pay13]
    generalize k0_pay10 s0 q0 g b w x = h
    funext y
    exact View.canon_eq_of_allAt _ y _ (View.cover_of_tiled_head _ _ _ (by sl_kernel_rfl) y)
      (View.allAt_cons_unit _ _ _ _ _ (rows2_tile1 _ _ y _ rfl) (View.allAt_cons_unit _ _ _ _ _ (rows2_tile0 _ _ y _ rfl) (View.allAt_nil _ _)))
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    sl_unfold_words
    rw [read_full _ _ zero2]
    simp only [View.readAt_eq_ld, View.readCov_unit_zero (S := S1x256) _ zero2, harg1.read_unread, harg2.read_unread, harg3.read_unread, harg4.read_unread, harg5.read_unread, harg6.read_unread, harg9.read_unread, harg10.read_unread, harg11.read_unread, harg12.read_unread, View.ld_unit_zero (S := S1x256) zero2, View.ld_unit_zero (S := S64x256) zero2, View.ld_unit_zero (S := S256x256) zero2, View.ld_unit_zero (S := S2x8x512x64) zero4]
    try dsimp only [k0_pay14, k0_pay13]
    generalize k0_pay10 s0 q0 g b w x = h
    rfl
  · iexists _; isplitr; swap; · iexact H12
    ipureintro
    sl_unfold_words
    rw [read_full _ _ zero2]
    simp only [View.readAt_eq_ld, View.readCov_unit_zero (S := S1x256) _ zero2, harg1.read_unread, harg2.read_unread, harg3.read_unread, harg4.read_unread, harg5.read_unread, harg6.read_unread, harg9.read_unread, harg10.read_unread, harg11.read_unread, harg12.read_unread, View.ld_unit_zero (S := S1x256) zero2, View.ld_unit_zero (S := S64x256) zero2, View.ld_unit_zero (S := S256x256) zero2, View.ld_unit_zero (S := S2x8x512x64) zero4]
    try dsimp only [k0_pay14, k0_pay13]
    generalize k0_pay10 s0 q0 g b w x = h
    rfl

end Cert.KernelIdeal.Own

end
-- ==== Proof.Ideal.Region0.lean ====
/-
  The first launch as a whole: what its windows hold and what its running sums are, point by point.
-/
module

public import proofs.«01_k».proof.Proof.Ideal.Sched
public import proofs.«01_k».proof.Proof.Ideal.Body0A
public import proofs.«01_k».proof.Proof.Ideal.Body0B
public import proofs.«01_k».proof.Proof.Ideal.Body0C

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at a point, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of point `n`, -/
def rows0 (c : Dev nD) (n : ℕ) : Vec F S2x8x512x64 .f32 := blk0 V c 0 (pt0 n)
/-- the first scale, -/
def gam0 (c : Dev nD) (n : ℕ) : Vec F S1x256 .f32 := blk0 V c 1 (pt0 n)
/-- the first shift, -/
def bet0 (c : Dev nD) (n : ℕ) : Vec F S1x256 .f32 := blk0 V c 2 (pt0 n)
/-- the first weights, -/
def wgt0 (c : Dev nD) (n : ℕ) : Vec F S64x256 .bf16 := blk0 V c 3 (pt0 n)
/-- the upper half of the second weights, -/
def wgtA (c : Dev nD) (n : ℕ) : Vec F S256x256 .bf16 := blk0 V c 4 (pt0 n)
/-- and their lower half. -/
def wgtB (c : Dev nD) (n : ℕ) : Vec F S256x256 .bf16 := blk0 V c 5 (pt0 n)

/-- The column sums of the first layer over the first `n` blocks of rows, -/
def sum0 (c : Dev nD) : ℕ → Vec F S1x256 .f32
  | 0 => k0_pay1
  | n + 1 => k0_pay6 (rows0 V c n) (wgt0 V c n) (sum0 c n)
/-- and the column sums of its squares. -/
def sq0 (c : Dev nD) : ℕ → Vec F S1x256 .f32
  | 0 => k0_pay2
  | n + 1 => k0_pay7 (rows0 V c n) (wgt0 V c n) (sq0 c n)

/-- The first layer's rows at point `n` of the second sweep, normalised and rectified. -/
def hid0 (c : Dev nD) (n : ℕ) : FVec F S8192x256 .bf16 :=
  k0_pay10 (sum0 V c 8) (sq0 V c 8) (gam0 V c n) (bet0 V c n) (wgt0 V c n) (rows0 V c n)

/-- The column sums of the second layer over the first `n` blocks of rows, -/
def sum1 (c : Dev nD) : ℕ → Vec F S1x256 .f32
  | 0 => k0_pay3
  | n + 1 => addSum (hid0 V c (8 + n)) (wgtA V c (8 + n)) (wgtB V c (8 + n)) (sum1 c n)
/-- and the column sums of its squares. -/
def sq1 (c : Dev nD) : ℕ → Vec F S1x256 .f32
  | 0 => k0_pay4
  | n + 1 => addSq (hid0 V c (8 + n)) (wgtA V c (8 + n)) (wgtB V c (8 + n)) (sq1 c n)

/-- What the body keeps between points: its four running sums. -/
def kept0 (c : Dev nD) : ℕ → sProp 𝕄
  | 0 => iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d))
  | n + 1 => iprop(owns (c : Thread nD τ) (Memref.whole cc0_scratch0) fullShare (sum0 V c (min (n + 1) 8))
      ∗ owns (c : Thread nD τ) (Memref.whole cc0_scratch1) fullShare (sq0 V c (min (n + 1) 8))
      ∗ owns (c : Thread nD τ) (Memref.whole cc0_scratch2) fullShare (sum1 V c (n + 1 - 8))
      ∗ owns (c : Thread nD τ) (Memref.whole cc0_scratch3) fullShare (sq1 V c (n + 1 - 8)))

theorem kept0_zero (c : Dev nD) : kept0 V c 0 = iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) := rfl

theorem kept0_succ (c : Dev nD) (n : ℕ) : kept0 V c (n + 1) = iprop(owns (c : Thread nD τ) (Memref.whole cc0_scratch0) fullShare (sum0 V c (min (n + 1) 8))
      ∗ owns (c : Thread nD τ) (Memref.whole cc0_scratch1) fullShare (sq0 V c (min (n + 1) 8))
      ∗ owns (c : Thread nD τ) (Memref.whole cc0_scratch2) fullShare (sum1 V c (n + 1 - 8))
      ∗ owns (c : Thread nD τ) (Memref.whole cc0_scratch3) fullShare (sq1 V c (n + 1 - 8))) := rfl

/-- The scoped buffers this launch does not use. -/
abbrev idleRest0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

/-- The launch's proof data: the inputs stay at their blocks, the two results take the second layer's rows and sums. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => block1 (hid0 V c t.val) (wgtA V c t.val) (wgtB V c t.val)
    | ⟨7, _⟩ => rows2 (sum1 V c (t.val + 1 - 8)) (sq1 V c (t.val + 1 - 8))
  Φ t := iprop(idleRest0 c ∗ kept0 V c t.val)
  q _ := fullShare
  owed _ := 0

theorem dat0_A (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) :
    (dat0 V c).after 6 t = block1 (hid0 V c t.val) (wgtA V c t.val) (wgtB V c t.val) := by dsimp only [dat0]
theorem after0_7 (c : Dev nD) (t : Fin cfg0.N) :
    (dat0 V c).after 7 t = rows2 (sum1 V c (t.val + 1 - 8)) (sq1 V c (t.val + 1 - 8)) := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [dat0_A]; try rfl) t d).trans
    (by unfold Dat.fetched Dat.blockOf blk0; rw [dat0_A]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [dat0_A]; try rfl) t d).trans
    (by unfold Dat.fetched Dat.blockOf blk0; rw [dat0_A]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [dat0_A]; try rfl) t d).trans
    (by unfold Dat.fetched Dat.blockOf blk0; rw [dat0_A]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [dat0_A]; try rfl) t d).trans
    (by unfold Dat.fetched Dat.blockOf blk0; rw [dat0_A]; try rfl)
theorem leaves0_0 (c : Dev nD) (t : Fin cfg0.N) :
    (dat0 V c).leavesExact 0 t = owns (c : Thread nD τ) (st0_0 t) fullShare (blk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (st0_1 t) fullShare (blk0 V c 1 t) := by
  unfold Dat.leavesExact; rw [show cfg0.idle 1 (cfg0.grid.coords t) = false from rfl, after0_1]
theorem leaves0_2 (c : Dev nD) (t : Fin cfg0.N) :
    (dat0 V c).leavesExact 2 t = owns (c : Thread nD τ) (st0_2 t) fullShare (blk0 V c 2 t) := by
  unfold Dat.leavesExact; rw [show cfg0.idle 2 (cfg0.grid.coords t) = false from rfl, after0_2]
theorem leaves0_3 (c : Dev nD) (t : Fin cfg0.N) :
    (dat0 V c).leavesExact 3 t = owns (c : Thread nD τ) (st0_3 t) fullShare (blk0 V c 3 t) := by
  unfold Dat.leavesExact; rw [show cfg0.idle 3 (cfg0.grid.coords t) = false from rfl, after0_3]
theorem leaves0_4 (c : Dev nD) (t : Fin cfg0.N) :
    (dat0 V c).leavesExact 4 t = owns (c : Thread nD τ) (st0_4 t) fullShare (blk0 V c 4 t) := by
  unfold Dat.leavesExact; rw [show cfg0.idle 4 (cfg0.grid.coords t) = false from rfl, after0_4]
theorem leaves0_5 (c : Dev nD) (t : Fin cfg0.N) :
    (dat0 V c).leavesExact 5 t = owns (c : Thread nD τ) (st0_5 t) fullShare (blk0 V c 5 t) := by
  unfold Dat.leavesExact; rw [show cfg0.idle 5 (cfg0.grid.coords t) = false from rfl, after0_5]
theorem leaves0_6 (c : Dev nD) (t : Fin cfg0.N) (h : 8 ≤ t.val) :
    (dat0 V c).leavesExact 6 t = owns (c : Thread nD τ) (st0_6 t) fullShare ((dat0 V c).after 6 t) := by
  unfold Dat.leavesExact; rw [live0_6 t h]
theorem leaves0_6_idle (c : Dev nD) (t : Fin cfg0.N) (h : t.val < 8) :
    (dat0 V c).leavesExact 6 t = iprop(∃ d, owns (c : Thread nD τ) (st0_6 t) fullShare ((dat0 V c).before 6 t d)) :=
  Dat.leavesExact_idle (dat0 V c) 6 t (idle0_6 t h) (stay0_6 t h)
theorem leaves0_7 (c : Dev nD) (t : Fin cfg0.N) (h : t.val = 15) :
    (dat0 V c).leavesExact 7 t = owns (c : Thread nD τ) (st0_7 t) fullShare ((dat0 V c).after 7 t) := by
  unfold Dat.leavesExact; rw [live0_7 t h]
theorem leaves0_7_idle (c : Dev nD) (t : Fin cfg0.N) (h : t.val < 15) :
    (dat0 V c).leavesExact 7 t = iprop(∃ d, owns (c : Thread nD τ) (st0_7 t) fullShare ((dat0 V c).before 7 t d)) :=
  Dat.leavesExact_idle (dat0 V c) 7 t (idle0_7 t h) (stay0_7 t h)

/-- What the body starts a point with, window by window, -/
def pre0 (c : Dev nD) (t : Fin cfg0.N) : sProp 𝕄 :=
  iprop(iprop(idleRest0 c ∗ kept0 V c t.val) ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))
/-- and what it leaves. -/
def post0 (c : Dev nD) (t : Fin cfg0.N) : sProp 𝕄 :=
  iprop(iprop(idleRest0 c ∗ kept0 V c (t.val + 1)) ∗ (dat0 V c).owesAt () t.castSucc
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1600000 in
/-- The first point. -/
theorem step0_first (c : Dev nD) (t : Fin cfg0.N) (ht : t.val = 0) :
    pre0 V c t ⊢ wp frame (wpE (defs₀ (F := F)) Variants.none c none) Set.univ (bodyAt0 t) (fun _ => post0 V c t) := by
  have hN := lt0 t
  unfold pre0 post0 bodyAt0
  simp only [before0_0, before0_1, before0_2, before0_3, before0_4, before0_5, leaves0_0, leaves0_1, leaves0_2, leaves0_3, leaves0_4, leaves0_5]
  rw [leaves0_6_idle V c t (by omega), leaves0_7_idle V c t (by omega)]
  have e0 : sum0 V c (min (0 + 1) 8) = k0_pay6 (blk0 V c 0 t) (blk0 V c 3 t) k0_pay1 := by
    rw [← pt0_val t, ht]; rfl
  have e1 : sq0 V c (min (0 + 1) 8) = k0_pay7 (blk0 V c 0 t) (blk0 V c 3 t) k0_pay2 := by
    rw [← pt0_val t, ht]; rfl
  rw [ht, kept0_zero, kept0_succ]
  rw [e0, e1, show sum1 V c (0 + 1 - 8) = k0_pay3 from rfl, show sq1 V c (0 + 1 - 8) = k0_pay4 from rfl]
  iintro ⟨⟨HR, HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0_first c (grid0.coords t) _ _ _ _ _ _ _ _ _ _ _ _ _ _ _ _ _ _ _ _ _ _ _ _ ((first0_iff t).mpr (by omega)) ((sweepA0_iff t).mpr (by omega)) (fun h => absurd ((sweepB0_iff t).mp h) (by omega)) (fun h => absurd ((last0_iff t).mp h) (by omega)) (blk0 V c 0 t) (blk0 V c 1 t) (blk0 V c 2 t) (blk0 V c 3 t) (blk0 V c 4 t) (blk0 V c 5 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HR HS0 HS1 HS2 HS3]
  · isplitl [HR]; · iexact HR
    isplitl [HS0]; · iexact HS0
    isplitl [HS1]; · iexact HS1
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The first sweep's other points. -/
theorem step0_sweepA (c : Dev nD) (t : Fin cfg0.N) (ht : 0 < t.val ∧ t.val < 8) :
    pre0 V c t ⊢ wp frame (wpE (defs₀ (F := F)) Variants.none c none) Set.univ (bodyAt0 t) (fun _ => post0 V c t) := by
  have hN := lt0 t
  unfold pre0 post0 bodyAt0
  simp only [before0_0, before0_1, before0_2, before0_3, before0_4, before0_5, leaves0_0, leaves0_1, leaves0_2, leaves0_3, leaves0_4, leaves0_5]
  rw [leaves0_6_idle V c t (by omega), leaves0_7_idle V c t (by omega)]
  obtain ⟨n, hn⟩ : ∃ n, t.val = n + 1 := ⟨t.val - 1, by omega⟩
  have e0 : sum0 V c (min (n + 1 + 1) 8) = k0_pay6 (blk0 V c 0 t) (blk0 V c 3 t) (sum0 V c (min (n + 1) 8)) := by
    rw [show min (n + 1 + 1) 8 = n + 1 + 1 by omega, show min (n + 1) 8 = n + 1 by omega, ← hn, sum0, rows0, wgt0, pt0_val]
  have e1 : sq0 V c (min (n + 1 + 1) 8) = k0_pay7 (blk0 V c 0 t) (blk0 V c 3 t) (sq0 V c (min (n + 1) 8)) := by
    rw [show min (n + 1 + 1) 8 = n + 1 + 1 by omega, show min (n + 1) 8 = n + 1 by omega, ← hn, sq0, rows0, wgt0, pt0_val]
  rw [hn, kept0_succ, kept0_succ]
  rw [e0, e1, show n + 1 + 1 - 8 = 0 by omega, show n + 1 - 8 = 0 by omega]
  iintro ⟨⟨HR, HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0_sweepA c (grid0.coords t) _ _ _ _ _ _ _ _ _ _ _ _ _ _ _ _ _ _ _ _ _ _ _ _ (fun h => absurd ((first0_iff t).mp h) (by omega)) ((sweepA0_iff t).mpr (by omega)) (fun h => absurd ((sweepB0_iff t).mp h) (by omega)) (fun h => absurd ((last0_iff t).mp h) (by omega)) (blk0 V c 0 t) (blk0 V c 1 t) (blk0 V c 2 t) (blk0 V c 3 t) (blk0 V c 4 t) (blk0 V c 5 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HR HS0 HS1 HS2 HS3]
  · isplitl [HR]; · iexact HR
    isplitl [HS0]; · iexact HS0
    isplitl [HS1]; · iexact HS1
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The second sweep before its last point. -/
theorem step0_sweepB (c : Dev nD) (t : Fin cfg0.N) (ht : 8 ≤ t.val ∧ t.val < 15) :
    pre0 V c t ⊢ wp frame (wpE (defs₀ (F := F)) Variants.none c none) Set.univ (bodyAt0 t) (fun _ => post0 V c t) := by
  have hN := lt0 t
  unfold pre0 post0 bodyAt0
  simp only [before0_0, before0_1, before0_2, before0_3, before0_4, before0_5, leaves0_0, leaves0_1, leaves0_2, leaves0_3, leaves0_4, leaves0_5]
  rw [leaves0_6 V c t (by omega), leaves0_7_idle V c t (by omega)]
  obtain ⟨n, hn⟩ : ∃ n, t.val = n + 1 := ⟨t.val - 1, by omega⟩
  have eh : hid0 V c t.val = k0_pay10 (sum0 V c (min (n + 1) 8)) (sq0 V c (min (n + 1) 8)) (blk0 V c 1 t) (blk0 V c 2 t) (blk0 V c 3 t) (blk0 V c 0 t) := by
    rw [show min (n + 1) 8 = 8 by omega, hid0, gam0, bet0, wgt0, rows0, pt0_val]
  have e0 : sum1 V c (n + 1 + 1 - 8) = addSum (hid0 V c t.val) (blk0 V c 4 t) (blk0 V c 5 t) (sum1 V c (n + 1 - 8)) := by
    rw [show n + 1 + 1 - 8 = (n + 1 - 8) + 1 by omega, sum1, show 8 + (n + 1 - 8) = t.val by omega, wgtA, wgtB, pt0_val]
  have e1 : sq1 V c (n + 1 + 1 - 8) = addSq (hid0 V c t.val) (blk0 V c 4 t) (blk0 V c 5 t) (sq1 V c (n + 1 - 8)) := by
    rw [show n + 1 + 1 - 8 = (n + 1 - 8) + 1 by omega, sq1, show 8 + (n + 1 - 8) = t.val by omega, wgtA, wgtB, pt0_val]
  rw [after0_6, wgtA, wgtB, pt0_val, eh, hn]
  rw [eh] at e0 e1
  rw [kept0_succ, kept0_succ]
  rw [e0, e1, show sum0 V c (min (n + 1 + 1) 8) = sum0 V c (min (n + 1) 8) from congrArg _ (by omega),
    show sq0 V c (min (n + 1 + 1) 8) = sq0 V c (min (n + 1) 8) from congrArg _ (by omega)]
  iintro ⟨⟨HR, HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0_sweepB c (grid0.coords t) _ _ _ _ _ _ _ _ _ _ _ _ _ _ _ _ _ _ _ _ _ _ _ _ (fun h => absurd ((first0_iff t).mp h) (by omega)) (fun h => absurd ((sweepA0_iff t).mp h) (by omega)) ((sweepB0_iff t).mpr (by omega)) (fun h => absurd ((last0_iff t).mp h) (by omega)) (blk0 V c 0 t) (blk0 V c 1 t) (blk0 V c 2 t) (blk0 V c 3 t) (blk0 V c 4 t) (blk0 V c 5 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HR HS0 HS1 HS2 HS3]
  · isplitl [HR]; · iexact HR
    isplitl [HS0]; · iexact HS0
    isplitl [HS1]; · iexact HS1
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 1600000 in
/-- The last point. -/
theorem step0_last (c : Dev nD) (t : Fin cfg0.N) (ht : t.val = 15) :
    pre0 V c t ⊢ wp frame (wpE (defs₀ (F := F)) Variants.none c none) Set.univ (bodyAt0 t) (fun _ => post0 V c t) := by
  have hN := lt0 t
  unfold pre0 post0 bodyAt0
  simp only [before0_0, before0_1, before0_2, before0_3, before0_4, before0_5, leaves0_0, leaves0_1, leaves0_2, leaves0_3, leaves0_4, leaves0_5]
  rw [leaves0_6 V c t (by omega), leaves0_7 V c t (by omega)]
  obtain ⟨n, hn⟩ : ∃ n, t.val = n + 1 := ⟨t.val - 1, by omega⟩
  have eh : hid0 V c t.val = k0_pay10 (sum0 V c (min (n + 1) 8)) (sq0 V c (min (n + 1) 8)) (blk0 V c 1 t) (blk0 V c 2 t) (blk0 V c 3 t) (blk0 V c 0 t) := by
    rw [show min (n + 1) 8 = 8 by omega, hid0, gam0, bet0, wgt0, rows0, pt0_val]
  have e0 : sum1 V c (n + 1 + 1 - 8) = addSum (hid0 V c t.val) (blk0 V c 4 t) (blk0 V c 5 t) (sum1 V c (n + 1 - 8)) := by
    rw [show n + 1 + 1 - 8 = (n + 1 - 8) + 1 by omega, sum1, show 8 + (n + 1 - 8) = t.val by omega, wgtA, wgtB, pt0_val]
  have e1 : sq1 V c (n + 1 + 1 - 8) = addSq (hid0 V c t.val) (blk0 V c 4 t) (blk0 V c 5 t) (sq1 V c (n + 1 - 8)) := by
    rw [show n + 1 + 1 - 8 = (n + 1 - 8) + 1 by omega, sq1, show 8 + (n + 1 - 8) = t.val by omega, wgtA, wgtB, pt0_val]
  rw [after0_7]
  rw [after0_6, wgtA, wgtB, pt0_val, eh, hn]
  rw [eh] at e0 e1
  rw [kept0_succ, kept0_succ]
  rw [e0, e1, show sum0 V c (min (n + 1 + 1) 8) = sum0 V c (min (n + 1) 8) from congrArg _ (by omega),
    show sq0 V c (min (n + 1 + 1) 8) = sq0 V c (min (n + 1) 8) from congrArg _ (by omega)]
  iintro ⟨⟨HR, HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0_last c (grid0.coords t) _ _ _ _ _ _ _ _ _ _ _ _ _ _ _ _ _ _ _ _ _ _ _ _ (fun h => absurd ((first0_iff t).mp h) (by omega)) (fun h => absurd ((sweepA0_iff t).mp h) (by omega)) ((sweepB0_iff t).mpr (by omega)) ((last0_iff t).mpr (by omega)) (blk0 V c 0 t) (blk0 V c 1 t) (blk0 V c 2 t) (blk0 V c 3 t) (blk0 V c 4 t) (blk0 V c 5 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HR HS0 HS1 HS2 HS3]
  · isplitl [HR]; · iexact HR
    isplitl [HS0]; · iexact HS0
    isplitl [HS1]; · iexact HS1
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's row of the launch's table is the body at the point. -/
theorem row0_eq (t : Fin cfg0.N) : defs₀ (F := F) .tc cfg0.body (cfg0.bodyArgs t (cfg0.slots t)) = bodyAt0 t := by
  unfold defs₀; rw [Defs.onTc_tc]

/-- The body does at every point what the proof data says. -/
theorem body0 (c : Dev nD) : BodyObligation (dat0 (F := F) V c) (defs₀ (F := F)) Variants.none () Set.univ := fun t => by
  rw [bigSep_W0, bigSep_W0, row0_eq]
  have h : pre0 V c t ⊢ wp frame (wpE (defs₀ (F := F)) Variants.none c none) Set.univ (bodyAt0 t) (fun _ => post0 V c t) := by
    have hN := lt0 t
    by_cases h0 : t.val = 0
    · exact step0_first V c t h0
    by_cases h1 : t.val < 8
    · exact step0_sweepA V c t ⟨by omega, h1⟩
    by_cases h2 : t.val < 15
    · exact step0_sweepB V c t ⟨by omega, h2⟩
    · exact step0_last V c t (by omega)
  exact triple_restated h rfl .rfl fun _ => .rfl

/-- The launch's scratch enters the invariant, -/
theorem in0 (c : Dev nD) : Pipeline.scopedRest (Ix := Unit) (Name := ℕ) (U := UR sig nD τ) (Lvl := ℕ) (Val := Elt F) spec0 c ⊢ (dat0 V c).Φ 0 := by
  rw [show (dat0 V c).Φ 0 = iprop(idleRest0 c ∗ kept0 V c 0) from rfl, scopedRest0_split, kept0_zero]
  simp only [owns_whole]
  iintro ⟨HS, HR⟩
  isplitl [HR]; · iexact HR
  iexact HS

/-- and leaves it. -/
theorem out0 (c : Dev nD) : (dat0 V c).Φ (Fin.last cfg0.N) ⊢ Pipeline.scopedRest (Ix := Unit) (Name := ℕ) (U := UR sig nD τ) (Lvl := ℕ) (Val := Elt F) spec0 c := by
  rw [show (dat0 V c).Φ (Fin.last cfg0.N) = iprop(idleRest0 c ∗ kept0 V c (15 + 1)) from by
    dsimp only [dat0]; rw [Fin.val_last, show cfg0.N = 15 + 1 from N_0], scopedRest0_split, kept0_succ]
  simp only [owns_whole]
  iintro ⟨HR, HS0, HS1, HS2, HS3⟩
  isplitr [HR]
  · isplitl [HS0]; · iexists _; iexact HS0
    isplitl [HS1]; · iexists _; iexact HS1
    isplitl [HS2]; · iexists _; iexact HS2
    iexists _; iexact HS3
  iexact HR

end Cert.KernelIdeal.Own

end
-- ==== Proof.Ideal.Block2.lean ====
/-
  What the second launch's body computes: of one block of 4096 rows the third dense layer with its running sums, of a stored block the column maxima of its eight segments, and the network's end.
-/
module

public import proofs.«01_k».proof.Proof.Ideal.Block1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a store through `R` leaves of contents `old`. -/
theorem read_put {S : Shape} {e : EltTy} {sp : Space} (v : View sig .tc sp S e) (f : v.ty.Contents (Elt F)) (R : Rect S)
    (w : R.shape.Idx → Elt F e) :
    v.read (Elt F) (v.writes (Elt F) f [(⟨R, w⟩ : View.Piece (Elt F) S e)]) = R.overlay (v.read (Elt F) f) w := by
  funext y
  by_cases hy : y ∈ R.set
  · obtain ⟨x, rfl⟩ := R.exists_idx_of_mem hy
    rw [show R.idx x = R.emb x from rfl, View.read_writes_cons_emb, Rect.overlay_emb]
  · rw [Rect.overlay_of_not_mem _ _ _ hy, View.writes_cons, View.read_slice_write_of_not_mem R _ _ _ (by rwa [Rect.map_emb_univ])]
    rfl

/-- Where the second sweep puts its maxima, in closed form. -/
theorem off3_eq (i : grid1.Coords) : k1_off3 i = ![(8 * (i 0).val + 4294967168) % 4294967296, 0] := by
  have hi : (i 0).val < 32 := (i 0).isLt
  unfold k1_off3
  refine congrArg (fun n => ![n, 0]) ?_
  generalize (i 0).val = n at hi
  revert n
  decide

instance closedOff3 (i : grid1.Coords) : ClosedOff (k1_off3 i) := ⟨![(8 * (i 0).val + 4294967168) % 4294967296, 0], off3_eq i⟩

/-- The upper of two rows. -/
abbrev row0 (z : Vec F S2x256 .f32) : Vec F S1x256 .f32 := View.ld z (Rect.unit (s := S2x256) ![0, 0] S1x256.size inb_S2x256_S1x256_0_0)
/-- The lower of two rows. -/
abbrev row1 (z : Vec F S2x256 .f32) : Vec F S1x256 .f32 := View.ld z (Rect.unit (s := S2x256) ![1, 0] S1x256.size inb_S2x256_S1x256_1_0)

/-- A block of rows through the third layer (before its normalisation). -/
def mid (z : Vec F S2x256 .f32) (g b : Vec F S1x256 .f32) (w : Vec F S256x256 .bf16) (y : Vec F S4096x256 .f32) : FVec F S4096x256 .f32 :=
  k1_pay8 (row0 z) (row1 z) g b w y
/-- The running sums after a block, -/
def midSum (z : Vec F S2x256 .f32) (g b : Vec F S1x256 .f32) (w : Vec F S256x256 .bf16) (y : Vec F S4096x256 .f32) (s : Vec F S1x256 .f32) :
    FVec F S1x256 .f32 := k1_pay3 (k1_pay9 (row0 z) (row1 z) g b w y s)
/-- the running sums of squares, -/
def midSq (z : Vec F S2x256 .f32) (g b : Vec F S1x256 .f32) (w : Vec F S256x256 .bf16) (y : Vec F S4096x256 .f32) (q : Vec F S1x256 .f32) :
    FVec F S1x256 .f32 := k1_pay4 (mid z g b w y) q
/-- and the rows kept of it. -/
def midKeep (z : Vec F S2x256 .f32) (g b : Vec F S1x256 .f32) (w : Vec F S256x256 .bf16) (y : Vec F S4096x256 .f32) : FVec F S4096x256 .bf16 :=
  k1_pay5 (mid z g b w y)

/-- The column maxima of a kept block's eight segments, normalised and rectified first. -/
def tops (s q g b : Vec F S1x256 .f32) (k : Vec F S4096x256 .bf16) : FVec F S8x256 .f32 :=
  k1_pay6 (k1_pay10 s q g b k) (k1_pay11 s q g b k) (k1_pay12 s q g b k) (k1_pay13 s q g b k) (k1_pay14 s q g b k) (k1_pay15 s q g b k)

/-- The end of the network, from the pooled rows. -/
def ending (s q g : Vec F S1x256 .f32) (wo1 : Vec F S256x256 .f32) (fb : Vec F S128x256 .f32) (bo1 : Vec F S1x256 .f32)
    (wo2 : Vec F S256x256 .f32) (bo2 : Vec F S1x256 .f32) (wm1 : Vec F S2048x1024 .bf16) (bm1 : Vec F S1x1024 .f32)
    (wm2 : Vec F S1024x512 .bf16) (bm2 : Vec F S1x512 .f32) : FVec F S16x512 .f32 :=
  k1_pay7 (k1_pay16 s q g wo1 fb bo1 wo2 bo2) (k1_pay17 wm1) bm1 wm2 bm2

/-- The rows kept at a point of the first sweep, put into the store. -/
def keepAt (i : grid1.Coords) (hc : sweepA1 i) (Y : Vec F S65536x256 .bf16) (k : FVec F S4096x256 .bf16) : Vec F S65536x256 .bf16 :=
  (Rect.unit (s := S65536x256) (k1_off1 i) S4096x256.size (k1_off1_inb i hc)).overlay Y k
/-- The rows read back at a point of the second sweep. -/
def backAt (i : grid1.Coords) (hc : sweepB1 i) (Y : Vec F S65536x256 .bf16) : Vec F S4096x256 .bf16 :=
  View.ld Y (Rect.unit (s := S65536x256) (k1_off2 i) S4096x256.size (k1_off2_inb i hc))
/-- The maxima found at a point of the second sweep, put into the store. -/
def topsAt (i : grid1.Coords) (hc : sweepB1 i) (T : Vec F S128x256 .f32) (k : FVec F S8x256 .f32) : Vec F S128x256 .f32 :=
  (Rect.unit (s := S128x256) (k1_off3 i) S8x256.size (k1_off3_inb i hc)).overlay T k

end Cert.KernelIdeal.Own

end
-- ==== Proof.Ideal.Stores.lean ====
/-
  The second launch's two stores: which rows each point writes and reads back.
-/
module

public import proofs.«01_k».proof.Proof.Ideal.Sched
public import proofs.«01_k».proof.Proof.Ideal.Block2

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where the first sweep keeps its rows, -/
theorem offKeep : ∀ t : Fin cfg1.N, t.val < 16 → k1_off1 (grid1.coords t) = ![4096 * t.val, 0] :=
  (by decide +kernel : ∀ t : Fin grid1.N, t.val < 16 → k1_off1 (grid1.coords t) = ![4096 * t.val, 0])
/-- where the second sweep reads them back, -/
theorem offBack : ∀ t : Fin cfg1.N, 16 ≤ t.val → k1_off2 (grid1.coords t) = ![4096 * (t.val - 16), 0] :=
  (by decide +kernel : ∀ t : Fin grid1.N, 16 ≤ t.val → k1_off2 (grid1.coords t) = ![4096 * (t.val - 16), 0])
/-- and where it puts its maxima. -/
theorem offTops : ∀ t : Fin cfg1.N, 16 ≤ t.val → k1_off3 (grid1.coords t) = ![8 * (t.val - 16), 0] :=
  (by decide +kernel : ∀ t : Fin grid1.N, 16 ≤ t.val → k1_off3 (grid1.coords t) = ![8 * (t.val - 16), 0])

/-- The first `n` blocks of 4096 rows of `Y` are `K 0`, `K 1`, … -/
def Keeps (K : ℕ → FVec F S4096x256 .bf16) (Y : Vec F S65536x256 .bf16) (n : ℕ) : Prop :=
  ∀ y : S65536x256.Idx, (y 0).val < 4096 * n → Y y = K ((y 0).val / 4096) (ValueIdx.ix2 ⟨(y 0).val % 4096, Nat.mod_lt _ (by decide)⟩ (y 1))

/-- The blocks `T 0`, `T 1`, … of eight rows, one under the other. -/
def stack (T : ℕ → FVec F S8x256 .f32) : Vec F S128x256 .f32 :=
  fun y => T ((y 0).val / 8) (ValueIdx.ix2 ⟨(y 0).val % 8, Nat.mod_lt _ (by decide)⟩ (y 1))

/-- The first `n` blocks of eight rows of `Z` are `T 0`, `T 1`, … -/
def Stacks (T : ℕ → FVec F S8x256 .f32) (Z : Vec F S128x256 .f32) (n : ℕ) : Prop :=
  ∀ y : S128x256.Idx, (y 0).val < 8 * n → Z y = stack T y

theorem stack_of (T : ℕ → FVec F S8x256 .f32) (Z : Vec F S128x256 .f32) (h : Stacks T Z 16) : Z = stack T :=
  funext fun y => h y (y 0).isLt

/-- An overlaid rectangle reads its payload where it lies, -/
theorem overlay_in {S : Shape} {α : Type} (Y : S.Idx → α) (off size : Fin S.rank → Nat) (inb) (k : (Rect.unit off size inb).shape.Idx → α)
    (y : S.Idx) (x : (Rect.unit off size inb).shape.Idx) (off' : Fin S.rank → Nat) (ho : off = off') (h : ∀ a, (y a).val = off' a + (x a).val) :
    (Rect.unit off size inb).overlay Y k y = k x := by
  subst ho
  rw [show y = (Rect.unit off size inb).emb x from funext fun a => Fin.ext ((h a).trans (Rect.idx_unit_val off size inb x a).symm), Rect.overlay_emb]

/-- and what was there elsewhere. -/
theorem overlay_out {S : Shape} {α : Type} (Y : S.Idx → α) (off size : Fin S.rank → Nat) (inb) (k : (Rect.unit off size inb).shape.Idx → α)
    (y : S.Idx) (a : Fin S.rank) (h : (y a).val < off a) : (Rect.unit off size inb).overlay Y k y = Y y :=
  Rect.overlay_of_not_mem _ _ _ fun hm => absurd (Rect.mem_set_unit.mp hm a).1 (by omega)

/-- A rectangle's rows read at their place. -/
theorem ld_at {S : Shape} {e : EltTy} (Y : Vec F S e) (off size : Fin S.rank → Nat) (inb) (x : (Rect.unit off size inb).shape.Idx)
    (off' : Fin S.rank → Nat) (ho : off = off') (i : S.Idx) (h : ∀ a, (i a).val = off' a + (x a).val) :
    View.ld Y (Rect.unit off size inb) x = Y i := by
  subst ho
  exact View.ld_unit_apply_of Y off size inb x i h

/-- A point of the first sweep keeps one more block. -/
theorem keeps_step (K : ℕ → FVec F S4096x256 .bf16) (Y : Vec F S65536x256 .bf16) (t : Fin cfg1.N) (ht : t.val < 16)
    (hc : sweepA1 (grid1.coords t)) (h : Keeps K Y t.val) : Keeps K (keepAt (grid1.coords t) hc Y (K t.val)) (t.val + 1) := by
  intro y hy
  unfold keepAt
  by_cases hm : (y 0).val < 4096 * t.val
  · refine (overlay_out _ _ _ _ _ y 0 ?_).trans (h y hm)
    rw [congrFun (offKeep t ht) 0]
    exact hm
  · refine (overlay_in _ _ _ _ _ y (ValueIdx.ix2 ⟨(y 0).val % 4096, Nat.mod_lt _ (by decide)⟩ (y 1)) _ (offKeep t ht) ?_).trans ?_
    · intro a
      match a with
      | ⟨0, _⟩ => show (y 0).val = 4096 * t.val + (y 0).val % 4096; omega
      | ⟨1, _⟩ => show (y 1).val = 0 + (y 1).val; omega
    · rw [show (y 0).val / 4096 = t.val by omega]
      rfl

/-- Once all rows are kept, a point of the second sweep reads back its block. -/
theorem keeps_back (K : ℕ → FVec F S4096x256 .bf16) (Y : Vec F S65536x256 .bf16) (t : Fin cfg1.N) (ht : 16 ≤ t.val)
    (hc : sweepB1 (grid1.coords t)) (h : Keeps K Y 16) : backAt (grid1.coords t) hc Y = K (t.val - 16) := by
  have hN := lt1 t
  funext x
  have hx : (x 0).val < 4096 := (x 0).isLt
  have hlt : 4096 * (t.val - 16) + (x 0).val < 65536 := by omega
  unfold backAt
  refine (ld_at Y _ _ _ x _ (offBack t ht) (ValueIdx.ix2 ⟨4096 * (t.val - 16) + (x 0).val, hlt⟩ (x 1)) ?_).trans ((h _ hlt).trans ?_)
  · intro a
    match a with
    | ⟨0, _⟩ => rfl
    | ⟨1, _⟩ => show (x 1).val = 0 + (x 1).val; omega
  · show K ((4096 * (t.val - 16) + (x 0).val) / 4096) _ = _
    rw [show (4096 * (t.val - 16) + (x 0).val) / 4096 = t.val - 16 by omega]
    refine congrArg _ (funext fun a => ?_)
    match a with
    | ⟨0, _⟩ => exact Fin.ext (show (4096 * (t.val - 16) + (x 0).val) % 4096 = (x 0).val by omega)
    | ⟨1, _⟩ => rfl

/-- A point of the second sweep puts down one more block of maxima. -/
theorem stacks_step (T : ℕ → FVec F S8x256 .f32) (Z : Vec F S128x256 .f32) (t : Fin cfg1.N) (ht : 16 ≤ t.val)
    (hc : sweepB1 (grid1.coords t)) (h : Stacks T Z (t.val - 16)) : Stacks T (topsAt (grid1.coords t) hc Z (T (t.val - 16))) (t.val - 16 + 1) := by
  intro y hy
  unfold topsAt
  by_cases hm : (y 0).val < 8 * (t.val - 16)
  · refine (overlay_out _ _ _ _ _ y 0 ?_).trans (h y hm)
    rw [congrFun (offTops t ht) 0]
    exact hm
  · refine (overlay_in _ _ _ _ _ y (ValueIdx.ix2 ⟨(y 0).val % 8, Nat.mod_lt _ (by decide)⟩ (y 1)) _ (offTops t ht) ?_).trans ?_
    · intro a
      match a with
      | ⟨0, _⟩ => show (y 0).val = 8 * (t.val - 16) + (y 0).val % 8; omega
      | ⟨1, _⟩ => show (y 1).val = 0 + (y 1).val; omega
    · unfold stack
      rw [show (y 0).val / 8 = t.val - 16 by omega]
      rfl

end Cert.KernelIdeal.Own

end
-- ==== Proof.Ideal.Body1A.lean ====
/-
  The second launch's body at the points of its first sweep.
-/
module

public import proofs.«01_k».proof.Proof.Ideal.Block2

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The second launch's body at its first point: the two running sums start at zero; the block through the third layer is kept and added in. -/
theorem body1_first (c : Dev nD) (i : grid1.Coords) (arg1 : Memref sig .tc .vmem S4096x256 .f32) (harg1 : arg1.IsWhole) (arg2 : Memref sig .tc .vmem S2x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S2048x1024 .bf16) (harg12 : arg12.IsWhole) (arg13 : Memref sig .tc .vmem S1x1024 .f32) (harg13 : arg13.IsWhole) (arg14 : Memref sig .tc .vmem S1024x512 .bf16) (harg14 : arg14.IsWhole) (arg15 : Memref sig .tc .vmem S1x512 .f32) (harg15 : arg15.IsWhole) (arg16 : Memref sig .tc .vmem S16x512 .f32) (harg16 : arg16.IsWhole) (arg17 : Memref sig .tc .vmem S65536x256 .bf16) (harg17 : arg17.IsWhole) (arg18 : Memref sig .tc .vmem S128x256 .f32) (harg18 : arg18.IsWhole) (arg19 : Memref sig .tc .vmem S1x256 .f32) (harg19 : arg19.IsWhole) (arg20 : Memref sig .tc .vmem S1x256 .f32) (harg20 : arg20.IsWhole)
    (hc0 : first1 i) (hc1 : sweepA1 i) (hc2 : ¬ sweepB1 i) (hc3 : ¬ last1 i)
    (y : Vec F S4096x256 .f32) (z : Vec F S2x256 .f32) (g1 : Vec F S1x256 .f32) (b1 : Vec F S1x256 .f32) (g2 : Vec F S1x256 .f32) (b2 : Vec F S1x256 .f32) (w2 : Vec F S256x256 .bf16) (wo1 : Vec F S256x256 .f32) (bo1 : Vec F S1x256 .f32) (wo2 : Vec F S256x256 .f32) (bo2 : Vec F S1x256 .f32) (wm1 : Vec F S2048x1024 .bf16) (bm1 : Vec F S1x1024 .f32) (wm2 : Vec F S1024x512 .bf16) (bm2 : Vec F S1x512 .f32) (o : Vec F S16x512 .f32) (Y : Vec F S65536x256 .bf16) (T : Vec F S128x256 .f32) (E : Set ℕ) (K : PUnit → sProp 𝕄) :
    iprop(owns (c : Thread nD τ) arg1 fullShare y ∗ owns (c : Thread nD τ) arg2 fullShare z ∗ owns (c : Thread nD τ) arg3 fullShare g1 ∗ owns (c : Thread nD τ) arg4 fullShare b1 ∗ owns (c : Thread nD τ) arg5 fullShare g2 ∗ owns (c : Thread nD τ) arg6 fullShare b2 ∗ owns (c : Thread nD τ) arg7 fullShare w2 ∗ owns (c : Thread nD τ) arg8 fullShare wo1 ∗ owns (c : Thread nD τ) arg9 fullShare bo1 ∗ owns (c : Thread nD τ) arg10 fullShare wo2 ∗ owns (c : Thread nD τ) arg11 fullShare bo2 ∗ owns (c : Thread nD τ) arg12 fullShare wm1 ∗ owns (c : Thread nD τ) arg13 fullShare bm1 ∗ owns (c : Thread nD τ) arg14 fullShare wm2 ∗ owns (c : Thread nD τ) arg15 fullShare bm2 ∗ owns (c : Thread nD τ) arg16 fullShare o ∗ owns (c : Thread nD τ) arg17 fullShare Y ∗ owns (c : Thread nD τ) arg18 fullShare T ∗ (∃ d, owns (c : Thread nD τ) arg19 fullShare d) ∗ (∃ d, owns (c : Thread nD τ) arg20 fullShare d)
      ∗ (iprop(owns (c : Thread nD τ) arg1 fullShare y ∗ owns (c : Thread nD τ) arg2 fullShare z ∗ owns (c : Thread nD τ) arg3 fullShare g1 ∗ owns (c : Thread nD τ) arg4 fullShare b1 ∗ owns (c : Thread nD τ) arg5 fullShare g2 ∗ owns (c : Thread nD τ) arg6 fullShare b2 ∗ owns (c : Thread nD τ) arg7 fullShare w2 ∗ owns (c : Thread nD τ) arg8 fullShare wo1 ∗ owns (c : Thread nD τ) arg9 fullShare bo1 ∗ owns (c : Thread nD τ) arg10 fullShare wo2 ∗ owns (c : Thread nD τ) arg11 fullShare bo2 ∗ owns (c : Thread nD τ) arg12 fullShare wm1 ∗ owns (c : Thread nD τ) arg13 fullShare bm1 ∗ owns (c : Thread nD τ) arg14 fullShare wm2 ∗ owns (c : Thread nD τ) arg15 fullShare bm2 ∗ owns (c : Thread nD τ) arg16 fullShare o ∗ owns (c : Thread nD τ) arg17 fullShare (keepAt i hc1 Y (midKeep z g1 b1 w2 y)) ∗ owns (c : Thread nD τ) arg18 fullShare T ∗ owns (c : Thread nD τ) arg19 fullShare (midSum z g1 b1 w2 y k1_pay1) ∗ owns (c : Thread nD τ) arg20 fullShare (midSq z g1 b1 w2 y k1_pay2)) -∗ K ⟨⟩))
    ⊢ wp frame (wpE (defs₀ (F := F)) Variants.none c none) E (cc1__k2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__k2_body_eq_skeleton]; unfold cc1__k2_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro
    rw [read_put]
    sl_unfold_words
    simp only [View.readAt_eq_ld, View.readCov_unit_zero (S := S1x256) _ zero2, read_put, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1x256) zero2, View.ld_unit_zero (S := S256x256) zero2, View.ld_unit_zero (S := S4096x256) zero2, View.ld_unit_zero (S := S128x256) zero2, View.ld_unit_zero (S := S2048x1024) zero2, View.ld_unit_zero (S := S1x1024) zero2, View.ld_unit_zero (S := S1024x512) zero2, View.ld_unit_zero (S := S1x512) zero2]
    try rfl
  isplitl [H18]
  · iexists _; isplitr; · ipureintro; exact harg18.read_unread _
    iexact H18
  isplitl [H19]
  · iexists _; isplitr; swap; · iexact H19
    ipureintro
    rw [read_full _ _ zero2]
    sl_unfold_words
    simp only [View.readAt_eq_ld, View.readCov_unit_zero (S := S1x256) _ zero2, read_put, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1x256) zero2, View.ld_unit_zero (S := S256x256) zero2, View.ld_unit_zero (S := S4096x256) zero2, View.ld_unit_zero (S := S128x256) zero2, View.ld_unit_zero (S := S2048x1024) zero2, View.ld_unit_zero (S := S1x1024) zero2, View.ld_unit_zero (S := S1024x512) zero2, View.ld_unit_zero (S := S1x512) zero2]
    try rfl
  · iexists _; isplitr; swap; · iexact H20
    ipureintro
    rw [read_full _ _ zero2]
    sl_unfold_words
    simp only [View.readAt_eq_ld, View.readCov_unit_zero (S := S1x256) _ zero2, read_put, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1x256) zero2, View.ld_unit_zero (S := S256x256) zero2, View.ld_unit_zero (S := S4096x256) zero2, View.ld_unit_zero (S := S128x256) zero2, View.ld_unit_zero (S := S2048x1024) zero2, View.ld_unit_zero (S := S1x1024) zero2, View.ld_unit_zero (S := S1024x512) zero2, View.ld_unit_zero (S := S1x512) zero2]
    try rfl

set_option maxHeartbeats 1600000 in
/-- The second launch's body at a later point of its first sweep: the block through the third layer is kept and added in. -/
theorem body1_sweepA (c : Dev nD) (i : grid1.Coords) (arg1 : Memref sig .tc .vmem S4096x256 .f32) (harg1 : arg1.IsWhole) (arg2 : Memref sig .tc .vmem S2x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S2048x1024 .bf16) (harg12 : arg12.IsWhole) (arg13 : Memref sig .tc .vmem S1x1024 .f32) (harg13 : arg13.IsWhole) (arg14 : Memref sig .tc .vmem S1024x512 .bf16) (harg14 : arg14.IsWhole) (arg15 : Memref sig .tc .vmem S1x512 .f32) (harg15 : arg15.IsWhole) (arg16 : Memref sig .tc .vmem S16x512 .f32) (harg16 : arg16.IsWhole) (arg17 : Memref sig .tc .vmem S65536x256 .bf16) (harg17 : arg17.IsWhole) (arg18 : Memref sig .tc .vmem S128x256 .f32) (harg18 : arg18.IsWhole) (arg19 : Memref sig .tc .vmem S1x256 .f32) (harg19 : arg19.IsWhole) (arg20 : Memref sig .tc .vmem S1x256 .f32) (harg20 : arg20.IsWhole)
    (hc0 : ¬ first1 i) (hc1 : sweepA1 i) (hc2 : ¬ sweepB1 i) (hc3 : ¬ last1 i)
    (y : Vec F S4096x256 .f32) (z : Vec F S2x256 .f32) (g1 : Vec F S1x256 .f32) (b1 : Vec F S1x256 .f32) (g2 : Vec F S1x256 .f32) (b2 : Vec F S1x256 .f32) (w2 : Vec F S256x256 .bf16) (wo1 : Vec F S256x256 .f32) (bo1 : Vec F S1x256 .f32) (wo2 : Vec F S256x256 .f32) (bo2 : Vec F S1x256 .f32) (wm1 : Vec F S2048x1024 .bf16) (bm1 : Vec F S1x1024 .f32) (wm2 : Vec F S1024x512 .bf16) (bm2 : Vec F S1x512 .f32) (o : Vec F S16x512 .f32) (Y : Vec F S65536x256 .bf16) (T : Vec F S128x256 .f32) (s : Vec F S1x256 .f32) (q : Vec F S1x256 .f32) (E : Set ℕ) (K : PUnit → sProp 𝕄) :
    iprop(owns (c : Thread nD τ) arg1 fullShare y ∗ owns (c : Thread nD τ) arg2 fullShare z ∗ owns (c : Thread nD τ) arg3 fullShare g1 ∗ owns (c : Thread nD τ) arg4 fullShare b1 ∗ owns (c : Thread nD τ) arg5 fullShare g2 ∗ owns (c : Thread nD τ) arg6 fullShare b2 ∗ owns (c : Thread nD τ) arg7 fullShare w2 ∗ owns (c : Thread nD τ) arg8 fullShare wo1 ∗ owns (c : Thread nD τ) arg9 fullShare bo1 ∗ owns (c : Thread nD τ) arg10 fullShare wo2 ∗ owns (c : Thread nD τ) arg11 fullShare bo2 ∗ owns (c : Thread nD τ) arg12 fullShare wm1 ∗ owns (c : Thread nD τ) arg13 fullShare bm1 ∗ owns (c : Thread nD τ) arg14 fullShare wm2 ∗ owns (c : Thread nD τ) arg15 fullShare bm2 ∗ owns (c : Thread nD τ) arg16 fullShare o ∗ owns (c : Thread nD τ) arg17 fullShare Y ∗ owns (c : Thread nD τ) arg18 fullShare T ∗ owns (c : Thread nD τ) arg19 fullShare s ∗ owns (c : Thread nD τ) arg20 fullShare q
      ∗ (iprop(owns (c : Thread nD τ) arg1 fullShare y ∗ owns (c : Thread nD τ) arg2 fullShare z ∗ owns (c : Thread nD τ) arg3 fullShare g1 ∗ owns (c : Thread nD τ) arg4 fullShare b1 ∗ owns (c : Thread nD τ) arg5 fullShare g2 ∗ owns (c : Thread nD τ) arg6 fullShare b2 ∗ owns (c : Thread nD τ) arg7 fullShare w2 ∗ owns (c : Thread nD τ) arg8 fullShare wo1 ∗ owns (c : Thread nD τ) arg9 fullShare bo1 ∗ owns (c : Thread nD τ) arg10 fullShare wo2 ∗ owns (c : Thread nD τ) arg11 fullShare bo2 ∗ owns (c : Thread nD τ) arg12 fullShare wm1 ∗ owns (c : Thread nD τ) arg13 fullShare bm1 ∗ owns (c : Thread nD τ) arg14 fullShare wm2 ∗ owns (c : Thread nD τ) arg15 fullShare bm2 ∗ owns (c : Thread nD τ) arg16 fullShare o ∗ owns (c : Thread nD τ) arg17 fullShare (keepAt i hc1 Y (midKeep z g1 b1 w2 y)) ∗ owns (c : Thread nD τ) arg18 fullShare T ∗ owns (c : Thread nD τ) arg19 fullShare (midSum z g1 b1 w2 y s) ∗ owns (c : Thread nD τ) arg20 fullShare (midSq z g1 b1 w2 y q)) -∗ K ⟨⟩))
    ⊢ wp frame (wpE (defs₀ (F := F)) Variants.none c none) E (cc1__k2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__k2_body_eq_skeleton]; unfold cc1__k2_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro
    rw [read_put]
    sl_unfold_words
    simp only [View.readAt_eq_ld, View.readCov_unit_zero (S := S1x256) _ zero2, read_put, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256) zero2, View.ld_unit_zero (S := S256x256) zero2, View.ld_unit_zero (S := S4096x256) zero2, View.ld_unit_zero (S := S128x256) zero2, View.ld_unit_zero (S := S2048x1024) zero2, View.ld_unit_zero (S := S1x1024) zero2, View.ld_unit_zero (S := S1024x512) zero2, View.ld_unit_zero (S := S1x512) zero2]
    try rfl
  isplitl [H18]
  · iexists _; isplitr; · ipureintro; exact harg18.read_unread _
    iexact H18
  isplitl [H19]
  · iexists _; isplitr; swap; · iexact H19
    ipureintro
    rw [read_full _ _ zero2]
    sl_unfold_words
    simp only [View.readAt_eq_ld, View.readCov_unit_zero (S := S1x256) _ zero2, read_put, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256) zero2, View.ld_unit_zero (S := S256x256) zero2, View.ld_unit_zero (S := S4096x256) zero2, View.ld_unit_zero (S := S128x256) zero2, View.ld_unit_zero (S := S2048x1024) zero2, View.ld_unit_zero (S := S1x1024) zero2, View.ld_unit_zero (S := S1024x512) zero2, View.ld_unit_zero (S := S1x512) zero2]
    try rfl
  · iexists _; isplitr; swap; · iexact H20
    ipureintro
    rw [read_full _ _ zero2]
    sl_unfold_words
    simp only [View.readAt_eq_ld, View.readCov_unit_zero (S := S1x256) _ zero2, read_put, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256) zero2, View.ld_unit_zero (S := S256x256) zero2, View.ld_unit_zero (S := S4096x256) zero2, View.ld_unit_zero (S := S128x256) zero2, View.ld_unit_zero (S := S2048x1024) zero2, View.ld_unit_zero (S := S1x1024) zero2, View.ld_unit_zero (S := S1024x512) zero2, View.ld_unit_zero (S := S1x512) zero2]
    try rfl

end Cert.KernelIdeal.Own

end
-- ==== Proof.Ideal.Body1B.lean ====
/-
  The second launch's body at the points of its second sweep.
-/
module

public import proofs.«01_k».proof.Proof.Ideal.Block2

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The second launch's body at a point of its second sweep but the last: a kept block's segment maxima are put into the store. -/
theorem body1_sweepB (c : Dev nD) (i : grid1.Coords) (arg1 : Memref sig .tc .vmem S4096x256 .f32) (harg1 : arg1.IsWhole) (arg2 : Memref sig .tc .vmem S2x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S2048x1024 .bf16) (harg12 : arg12.IsWhole) (arg13 : Memref sig .tc .vmem S1x1024 .f32) (harg13 : arg13.IsWhole) (arg14 : Memref sig .tc .vmem S1024x512 .bf16) (harg14 : arg14.IsWhole) (arg15 : Memref sig .tc .vmem S1x512 .f32) (harg15 : arg15.IsWhole) (arg16 : Memref sig .tc .vmem S16x512 .f32) (harg16 : arg16.IsWhole) (arg17 : Memref sig .tc .vmem S65536x256 .bf16) (harg17 : arg17.IsWhole) (arg18 : Memref sig .tc .vmem S128x256 .f32) (harg18 : arg18.IsWhole) (arg19 : Memref sig .tc .vmem S1x256 .f32) (harg19 : arg19.IsWhole) (arg20 : Memref sig .tc .vmem S1x256 .f32) (harg20 : arg20.IsWhole)
    (hc0 : ¬ first1 i) (hc1 : ¬ sweepA1 i) (hc2 : sweepB1 i) (hc3 : ¬ last1 i)
    (y : Vec F S4096x256 .f32) (z : Vec F S2x256 .f32) (g1 : Vec F S1x256 .f32) (b1 : Vec F S1x256 .f32) (g2 : Vec F S1x256 .f32) (b2 : Vec F S1x256 .f32) (w2 : Vec F S256x256 .bf16) (wo1 : Vec F S256x256 .f32) (bo1 : Vec F S1x256 .f32) (wo2 : Vec F S256x256 .f32) (bo2 : Vec F S1x256 .f32) (wm1 : Vec F S2048x1024 .bf16) (bm1 : Vec F S1x1024 .f32) (wm2 : Vec F S1024x512 .bf16) (bm2 : Vec F S1x512 .f32) (o : Vec F S16x512 .f32) (Y : Vec F S65536x256 .bf16) (T : Vec F S128x256 .f32) (s : Vec F S1x256 .f32) (q : Vec F S1x256 .f32) (E : Set ℕ) (K : PUnit → sProp 𝕄) :
    iprop(owns (c : Thread nD τ) arg1 fullShare y ∗ owns (c : Thread nD τ) arg2 fullShare z ∗ owns (c : Thread nD τ) arg3 fullShare g1 ∗ owns (c : Thread nD τ) arg4 fullShare b1 ∗ owns (c : Thread nD τ) arg5 fullShare g2 ∗ owns (c : Thread nD τ) arg6 fullShare b2 ∗ owns (c : Thread nD τ) arg7 fullShare w2 ∗ owns (c : Thread nD τ) arg8 fullShare wo1 ∗ owns (c : Thread nD τ) arg9 fullShare bo1 ∗ owns (c : Thread nD τ) arg10 fullShare wo2 ∗ owns (c : Thread nD τ) arg11 fullShare bo2 ∗ owns (c : Thread nD τ) arg12 fullShare wm1 ∗ owns (c : Thread nD τ) arg13 fullShare bm1 ∗ owns (c : Thread nD τ) arg14 fullShare wm2 ∗ owns (c : Thread nD τ) arg15 fullShare bm2 ∗ owns (c : Thread nD τ) arg16 fullShare o ∗ owns (c : Thread nD τ) arg17 fullShare Y ∗ owns (c : Thread nD τ) arg18 fullShare T ∗ owns (c : Thread nD τ) arg19 fullShare s ∗ owns (c : Thread nD τ) arg20 fullShare q
      ∗ (iprop(owns (c : Thread nD τ) arg1 fullShare y ∗ owns (c : Thread nD τ) arg2 fullShare z ∗ owns (c : Thread nD τ) arg3 fullShare g1 ∗ owns (c : Thread nD τ) arg4 fullShare b1 ∗ owns (c : Thread nD τ) arg5 fullShare g2 ∗ owns (c : Thread nD τ) arg6 fullShare b2 ∗ owns (c : Thread nD τ) arg7 fullShare w2 ∗ owns (c : Thread nD τ) arg8 fullShare wo1 ∗ owns (c : Thread nD τ) arg9 fullShare bo1 ∗ owns (c : Thread nD τ) arg10 fullShare wo2 ∗ owns (c : Thread nD τ) arg11 fullShare bo2 ∗ owns (c : Thread nD τ) arg12 fullShare wm1 ∗ owns (c : Thread nD τ) arg13 fullShare bm1 ∗ owns (c : Thread nD τ) arg14 fullShare wm2 ∗ owns (c : Thread nD τ) arg15 fullShare bm2 ∗ owns (c : Thread nD τ) arg16 fullShare o ∗ owns (c : Thread nD τ) arg17 fullShare Y ∗ owns (c : Thread nD τ) arg18 fullShare (topsAt i hc2 T (tops s q g2 b2 (backAt i hc2 Y))) ∗ owns (c : Thread nD τ) arg19 fullShare s ∗ owns (c : Thread nD τ) arg20 fullShare q) -∗ K ⟨⟩))
    ⊢ wp frame (wpE (defs₀ (F := F)) Variants.none c none) E (cc1__k2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__k2_body_eq_skeleton]; unfold cc1__k2_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; swap; · iexact H18
    ipureintro
    rw [read_put]
    sl_unfold_words
    simp only [View.readAt_eq_ld, View.readCov_unit_zero (S := S1x256) _ zero2, read_put, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256) zero2, View.ld_unit_zero (S := S256x256) zero2, View.ld_unit_zero (S := S4096x256) zero2, View.ld_unit_zero (S := S128x256) zero2, View.ld_unit_zero (S := S2048x1024) zero2, View.ld_unit_zero (S := S1x1024) zero2, View.ld_unit_zero (S := S1024x512) zero2, View.ld_unit_zero (S := S1x512) zero2]
    try rfl
  isplitl [H19]
  · iexists _; isplitr; · ipureintro; exact harg19.read_unread _
    iexact H19
  · iexists _; isplitr; · ipureintro; exact harg20.read_unread _
    iexact H20

set_option maxHeartbeats 1600000 in
/-- The second launch's body at its last point: the last block's maxima are put into the store, and the result is computed from the whole store. -/
theorem body1_last (c : Dev nD) (i : grid1.Coords) (arg1 : Memref sig .tc .vmem S4096x256 .f32) (harg1 : arg1.IsWhole) (arg2 : Memref sig .tc .vmem S2x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S2048x1024 .bf16) (harg12 : arg12.IsWhole) (arg13 : Memref sig .tc .vmem S1x1024 .f32) (harg13 : arg13.IsWhole) (arg14 : Memref sig .tc .vmem S1024x512 .bf16) (harg14 : arg14.IsWhole) (arg15 : Memref sig .tc .vmem S1x512 .f32) (harg15 : arg15.IsWhole) (arg16 : Memref sig .tc .vmem S16x512 .f32) (harg16 : arg16.IsWhole) (arg17 : Memref sig .tc .vmem S65536x256 .bf16) (harg17 : arg17.IsWhole) (arg18 : Memref sig .tc .vmem S128x256 .f32) (harg18 : arg18.IsWhole) (arg19 : Memref sig .tc .vmem S1x256 .f32) (harg19 : arg19.IsWhole) (arg20 : Memref sig .tc .vmem S1x256 .f32) (harg20 : arg20.IsWhole)
    (hc0 : ¬ first1 i) (hc1 : ¬ sweepA1 i) (hc2 : sweepB1 i) (hc3 : last1 i)
    (y : Vec F S4096x256 .f32) (z : Vec F S2x256 .f32) (g1 : Vec F S1x256 .f32) (b1 : Vec F S1x256 .f32) (g2 : Vec F S1x256 .f32) (b2 : Vec F S1x256 .f32) (w2 : Vec F S256x256 .bf16) (wo1 : Vec F S256x256 .f32) (bo1 : Vec F S1x256 .f32) (wo2 : Vec F S256x256 .f32) (bo2 : Vec F S1x256 .f32) (wm1 : Vec F S2048x1024 .bf16) (bm1 : Vec F S1x1024 .f32) (wm2 : Vec F S1024x512 .bf16) (bm2 : Vec F S1x512 .f32) (Y : Vec F S65536x256 .bf16) (T : Vec F S128x256 .f32) (s : Vec F S1x256 .f32) (q : Vec F S1x256 .f32) (E : Set ℕ) (K : PUnit → sProp 𝕄) :
    iprop(owns (c : Thread nD τ) arg1 fullShare y ∗ owns (c : Thread nD τ) arg2 fullShare z ∗ owns (c : Thread nD τ) arg3 fullShare g1 ∗ owns (c : Thread nD τ) arg4 fullShare b1 ∗ owns (c : Thread nD τ) arg5 fullShare g2 ∗ owns (c : Thread nD τ) arg6 fullShare b2 ∗ owns (c : Thread nD τ) arg7 fullShare w2 ∗ owns (c : Thread nD τ) arg8 fullShare wo1 ∗ owns (c : Thread nD τ) arg9 fullShare bo1 ∗ owns (c : Thread nD τ) arg10 fullShare wo2 ∗ owns (c : Thread nD τ) arg11 fullShare bo2 ∗ owns (c : Thread nD τ) arg12 fullShare wm1 ∗ owns (c : Thread nD τ) arg13 fullShare bm1 ∗ owns (c : Thread nD τ) arg14 fullShare wm2 ∗ owns (c : Thread nD τ) arg15 fullShare bm2 ∗ (∃ d, owns (c : Thread nD τ) arg16 fullShare d) ∗ owns (c : Thread nD τ) arg17 fullShare Y ∗ owns (c : Thread nD τ) arg18 fullShare T ∗ owns (c : Thread nD τ) arg19 fullShare s ∗ owns (c : Thread nD τ) arg20 fullShare q
      ∗ (iprop(owns (c : Thread nD τ) arg1 fullShare y ∗ owns (c : Thread nD τ) arg2 fullShare z ∗ owns (c : Thread nD τ) arg3 fullShare g1 ∗ owns (c : Thread nD τ) arg4 fullShare b1 ∗ owns (c : Thread nD τ) arg5 fullShare g2 ∗ owns (c : Thread nD τ) arg6 fullShare b2 ∗ owns (c : Thread nD τ) arg7 fullShare w2 ∗ owns (c : Thread nD τ) arg8 fullShare wo1 ∗ owns (c : Thread nD τ) arg9 fullShare bo1 ∗ owns (c : Thread nD τ) arg10 fullShare wo2 ∗ owns (c : Thread nD τ) arg11 fullShare bo2 ∗ owns (c : Thread nD τ) arg12 fullShare wm1 ∗ owns (c : Thread nD τ) arg13 fullShare bm1 ∗ owns (c : Thread nD τ) arg14 fullShare wm2 ∗ owns (c : Thread nD τ) arg15 fullShare bm2 ∗ owns (c : Thread nD τ) arg16 fullShare (ending s q g2 wo1 (topsAt i hc2 T (tops s q g2 b2 (backAt i hc2 Y))) bo1 wo2 bo2 wm1 bm1 wm2 bm2) ∗ owns (c : Thread nD τ) arg17 fullShare Y ∗ owns (c : Thread nD τ) arg18 fullShare (topsAt i hc2 T (tops s q g2 b2 (backAt i hc2 Y))) ∗ owns (c : Thread nD τ) arg19 fullShare s ∗ owns (c : Thread nD τ) arg20 fullShare q) -∗ K ⟨⟩))
    ⊢ wp frame (wpE (defs₀ (F := F)) Variants.none c none) E (cc1__k2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__k2_body_eq_skeleton]; unfold cc1__k2_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%f20, %hf20, H20⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg17.eq_unread hf17
  obtain rfl := harg18.eq_unread hf18
  obtain rfl := harg19.eq_unread hf19
  obtain rfl := harg20.eq_unread hf20
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; swap; · iexact H16
    ipureintro
    rw [read_full _ _ zero2]
    sl_unfold_words
    simp only [View.readAt_eq_ld, View.readCov_unit_zero (S := S1x256) _ zero2, read_put, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread, View.ld_unit_zero (S := S1x256) zero2, View.ld_unit_zero (S := S256x256) zero2, View.ld_unit_zero (S := S4096x256) zero2, View.ld_unit_zero (S := S128x256) zero2, View.ld_unit_zero (S := S2048x1024) zero2, View.ld_unit_zero (S := S1x1024) zero2, View.ld_unit_zero (S := S1024x512) zero2, View.ld_unit_zero (S := S1x512) zero2]
    try rfl
  isplitl [H17]
  · iexists _; isplitr; · ipureintro; exact harg17.read_unread _
    iexact H17
  isplitl [H18]
  · iexists _; isplitr; swap; · iexact H18
    ipureintro
    sl_unfold_words
    rw [read_put]
    simp only [View.readAt_eq_ld, View.readCov_unit_zero (S := S1x256) _ zero2, read_put, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread, View.ld_unit_zero (S := S1x256) zero2, View.ld_unit_zero (S := S256x256) zero2, View.ld_unit_zero (S := S4096x256) zero2, View.ld_unit_zero (S := S128x256) zero2, View.ld_unit_zero (S := S2048x1024) zero2, View.ld_unit_zero (S := S1x1024) zero2, View.ld_unit_zero (S := S1024x512) zero2, View.ld_unit_zero (S := S1x512) zero2]
    try rfl
  isplitl [H19]
  · iexists _; isplitr; · ipureintro; exact harg19.read_unread _
    iexact H19
  · iexists _; isplitr; · ipureintro; exact harg20.read_unread _
    iexact H20

end Cert.KernelIdeal.Own

end
-- ==== Proof.Ideal.Region1.lean ====
/-
  The second launch as a whole: what its windows hold and what it keeps, point by point.
-/
module

public import proofs.«01_k».proof.Proof.Ideal.Stores
public import proofs.«01_k».proof.Proof.Ideal.Body1A
public import proofs.«01_k».proof.Proof.Ideal.Body1B

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at a point, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of point `n`, -/
def rows1At (c : Dev nD) (n : ℕ) : Vec F S4096x256 .f32 := blk1 V c 0 (pt1 n)
/-- the second layer's two sums, -/
def tot1At (c : Dev nD) (n : ℕ) : Vec F S2x256 .f32 := blk1 V c 1 (pt1 n)
/-- the second scale, -/
def gam1At (c : Dev nD) (n : ℕ) : Vec F S1x256 .f32 := blk1 V c 2 (pt1 n)
/-- the second shift, -/
def bet1At (c : Dev nD) (n : ℕ) : Vec F S1x256 .f32 := blk1 V c 3 (pt1 n)
/-- the third scale, -/
def gam2At (c : Dev nD) (n : ℕ) : Vec F S1x256 .f32 := blk1 V c 4 (pt1 n)
/-- the third shift, -/
def bet2At (c : Dev nD) (n : ℕ) : Vec F S1x256 .f32 := blk1 V c 5 (pt1 n)
/-- the third weights, -/
def wgt2At (c : Dev nD) (n : ℕ) : Vec F S256x256 .bf16 := blk1 V c 6 (pt1 n)
/-- the output stage's first weights, -/
def wo1At (c : Dev nD) (n : ℕ) : Vec F S256x256 .f32 := blk1 V c 7 (pt1 n)
/-- its first bias, -/
def bo1At (c : Dev nD) (n : ℕ) : Vec F S1x256 .f32 := blk1 V c 8 (pt1 n)
/-- its second weights, -/
def wo2At (c : Dev nD) (n : ℕ) : Vec F S256x256 .f32 := blk1 V c 9 (pt1 n)
/-- its second bias, -/
def bo2At (c : Dev nD) (n : ℕ) : Vec F S1x256 .f32 := blk1 V c 10 (pt1 n)
/-- the last stage's first weights, -/
def wm1At (c : Dev nD) (n : ℕ) : Vec F S2048x1024 .bf16 := blk1 V c 11 (pt1 n)
/-- its first bias, -/
def bm1At (c : Dev nD) (n : ℕ) : Vec F S1x1024 .f32 := blk1 V c 12 (pt1 n)
/-- its second weights, -/
def wm2At (c : Dev nD) (n : ℕ) : Vec F S1024x512 .bf16 := blk1 V c 13 (pt1 n)
/-- and its second bias. -/
def bm2At (c : Dev nD) (n : ℕ) : Vec F S1x512 .f32 := blk1 V c 14 (pt1 n)

/-- The column sums of the third layer over the first `n` blocks of rows, -/
def sum2 (c : Dev nD) : ℕ → Vec F S1x256 .f32
  | 0 => k1_pay1
  | n + 1 => midSum (tot1At V c n) (gam1At V c n) (bet1At V c n) (wgt2At V c n) (rows1At V c n) (sum2 c n)
/-- and the column sums of its squares. -/
def sq2 (c : Dev nD) : ℕ → Vec F S1x256 .f32
  | 0 => k1_pay2
  | n + 1 => midSq (tot1At V c n) (gam1At V c n) (bet1At V c n) (wgt2At V c n) (rows1At V c n) (sq2 c n)

/-- The rows of the third layer that point `n` keeps. -/
def keep2 (c : Dev nD) (n : ℕ) : FVec F S4096x256 .bf16 := midKeep (tot1At V c n) (gam1At V c n) (bet1At V c n) (wgt2At V c n) (rows1At V c n)

/-- The maxima that point `16 + n` finds. -/
def top2 (c : Dev nD) (n : ℕ) : FVec F S8x256 .f32 :=
  tops (sum2 V c 16) (sq2 V c 16) (gam2At V c (16 + n)) (bet2At V c (16 + n)) (keep2 V c n)

/-- The pooled rows. -/
def pooled (c : Dev nD) : Vec F S128x256 .f32 := stack (top2 V c)

/-- What the last point puts into the result. -/
def last2 (c : Dev nD) (n : ℕ) : FVec F S16x512 .f32 :=
  ending (sum2 V c 16) (sq2 V c 16) (gam2At V c n) (wo1At V c n) (pooled V c) (bo1At V c n) (wo2At V c n) (bo2At V c n)
    (wm1At V c n) (bm1At V c n) (wm2At V c n) (bm2At V c n)

/-- What the body keeps between points: the rows kept so far, the maxima found so far, and the two running sums. -/
def kept1 (c : Dev nD) : ℕ → sProp 𝕄
  | 0 => iprop((∃ d, owns (c : Thread nD τ) (Memref.whole cc1_scratch0) fullShare d) ∗ (∃ d, owns (c : Thread nD τ) (Memref.whole cc1_scratch1) fullShare d)
      ∗ (∃ d, owns (c : Thread nD τ) (Memref.whole cc1_scratch2) fullShare d) ∗ (∃ d, owns (c : Thread nD τ) (Memref.whole cc1_scratch3) fullShare d))
  | n + 1 => iprop((∃ Y, ⌜Keeps (keep2 V c) Y (min (n + 1) 16)⌝ ∗ owns (c : Thread nD τ) (Memref.whole cc1_scratch0) fullShare Y)
      ∗ (∃ Z, ⌜Stacks (top2 V c) Z (n + 1 - 16)⌝ ∗ owns (c : Thread nD τ) (Memref.whole cc1_scratch1) fullShare Z)
      ∗ owns (c : Thread nD τ) (Memref.whole cc1_scratch2) fullShare (sum2 V c (min (n + 1) 16))
      ∗ owns (c : Thread nD τ) (Memref.whole cc1_scratch3) fullShare (sq2 V c (min (n + 1) 16)))

theorem kept1_zero (c : Dev nD) : kept1 V c 0 = iprop((∃ d, owns (c : Thread nD τ) (Memref.whole cc1_scratch0) fullShare d) ∗ (∃ d, owns (c : Thread nD τ) (Memref.whole cc1_scratch1) fullShare d)
      ∗ (∃ d, owns (c : Thread nD τ) (Memref.whole cc1_scratch2) fullShare d) ∗ (∃ d, owns (c : Thread nD τ) (Memref.whole cc1_scratch3) fullShare d)) := rfl

theorem kept1_succ (c : Dev nD) (n : ℕ) : kept1 V c (n + 1) = iprop((∃ Y, ⌜Keeps (keep2 V c) Y (min (n + 1) 16)⌝ ∗ owns (c : Thread nD τ) (Memref.whole cc1_scratch0) fullShare Y)
      ∗ (∃ Z, ⌜Stacks (top2 V c) Z (n + 1 - 16)⌝ ∗ owns (c : Thread nD τ) (Memref.whole cc1_scratch1) fullShare Z)
      ∗ owns (c : Thread nD τ) (Memref.whole cc1_scratch2) fullShare (sum2 V c (min (n + 1) 16))
      ∗ owns (c : Thread nD τ) (Memref.whole cc1_scratch3) fullShare (sq2 V c (min (n + 1) 16))) := rfl

/-- The scoped buffers this launch does not use. -/
abbrev idleRest1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3]

/-- The launch's proof data: the inputs stay at their blocks, the result takes the network's end. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => blk1 V c 12 t
    | ⟨13, _⟩ => blk1 V c 13 t
    | ⟨14, _⟩ => blk1 V c 14 t
    | ⟨15, _⟩ => last2 V c t.val
    | ⟨_ + 16, h⟩ => absurd h (Nat.not_lt.2 (Nat.le_add_left _ _))
  Φ t := iprop(idleRest1 c ∗ kept1 V c t.val)
  q _ := fullShare
  owed _ := 0

theorem dat1_A (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) : (dat1 V c).after 10 t = blk1 V c 10 t := by dsimp only [dat1]
theorem after1_11 (c : Dev nD) (t : Fin cfg1.N) : (dat1 V c).after 11 t = blk1 V c 11 t := by dsimp only [dat1]
theorem after1_12 (c : Dev nD) (t : Fin cfg1.N) : (dat1 V c).after 12 t = blk1 V c 12 t := by dsimp only [dat1]
theorem after1_13 (c : Dev nD) (t : Fin cfg1.N) : (dat1 V c).after 13 t = blk1 V c 13 t := by dsimp only [dat1]
theorem after1_14 (c : Dev nD) (t : Fin cfg1.N) : (dat1 V c).after 14 t = blk1 V c 14 t := by dsimp only [dat1]
theorem after1_15 (c : Dev nD) (t : Fin cfg1.N) : (dat1 V c).after 15 t = last2 V c t.val := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [dat1_A]; try rfl) t d).trans
    (by unfold Dat.fetched Dat.blockOf blk1; rw [dat1_A]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [dat1_A]; try rfl) t d).trans
    (by unfold Dat.fetched Dat.blockOf blk1; rw [dat1_A]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [dat1_A]; try rfl) t d).trans
    (by unfold Dat.fetched Dat.blockOf blk1; rw [dat1_A]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [dat1_A]; try rfl) t d).trans
    (by unfold Dat.fetched Dat.blockOf blk1; rw [dat1_A]; try rfl)
theorem before1_8 (c : Dev nD) (t : Fin cfg1.N) (d) : (dat1 V c).before 8 t d = blk1 V c 8 t :=
  ((dat1 V c).before_in_eq_fetched 8 rfl (fun _ => rfl) (fun _ _ _ => rfl) (fun t => by rw [after1_8]; unfold Dat.blockOf blk1; rw [dat1_A]; try rfl) t d).trans
    (by unfold Dat.fetched Dat.blockOf blk1; rw [dat1_A]; try rfl)
theorem before1_9 (c : Dev nD) (t : Fin cfg1.N) (d) : (dat1 V c).before 9 t d = blk1 V c 9 t :=
  ((dat1 V c).before_in_eq_fetched 9 rfl (fun _ => rfl) (fun _ _ _ => rfl) (fun t => by rw [after1_9]; unfold Dat.blockOf blk1; rw [dat1_A]; try rfl) t d).trans
    (by unfold Dat.fetched Dat.blockOf blk1; rw [dat1_A]; try rfl)
theorem before1_10 (c : Dev nD) (t : Fin cfg1.N) (d) : (dat1 V c).before 10 t d = blk1 V c 10 t :=
  ((dat1 V c).before_in_eq_fetched 10 rfl (fun _ => rfl) (fun _ _ _ => rfl) (fun t => by rw [after1_10]; unfold Dat.blockOf blk1; rw [dat1_A]; try rfl) t d).trans
    (by unfold Dat.fetched Dat.blockOf blk1; rw [dat1_A]; try rfl)
theorem before1_11 (c : Dev nD) (t : Fin cfg1.N) (d) : (dat1 V c).before 11 t d = blk1 V c 11 t :=
  ((dat1 V c).before_in_eq_fetched 11 rfl (fun _ => rfl) (fun _ _ _ => rfl) (fun t => by rw [after1_11]; unfold Dat.blockOf blk1; rw [dat1_A]; try rfl) t d).trans
    (by unfold Dat.fetched Dat.blockOf blk1; rw [dat1_A]; try rfl)
theorem before1_12 (c : Dev nD) (t : Fin cfg1.N) (d) : (dat1 V c).before 12 t d = blk1 V c 12 t :=
  ((dat1 V c).before_in_eq_fetched 12 rfl (fun _ => rfl) (fun _ _ _ => rfl) (fun t => by rw [after1_12]; unfold Dat.blockOf blk1; rw [dat1_A]; try rfl) t d).trans
    (by unfold Dat.fetched Dat.blockOf blk1; rw [dat1_A]; try rfl)
theorem before1_13 (c : Dev nD) (t : Fin cfg1.N) (d) : (dat1 V c).before 13 t d = blk1 V c 13 t :=
  ((dat1 V c).before_in_eq_fetched 13 rfl (fun _ => rfl) (fun _ _ _ => rfl) (fun t => by rw [after1_13]; unfold Dat.blockOf blk1; rw [dat1_A]; try rfl) t d).trans
    (by unfold Dat.fetched Dat.blockOf blk1; rw [dat1_A]; try rfl)
theorem before1_14 (c : Dev nD) (t : Fin cfg1.N) (d) : (dat1 V c).before 14 t d = blk1 V c 14 t :=
  ((dat1 V c).before_in_eq_fetched 14 rfl (fun _ => rfl) (fun _ _ _ => rfl) (fun t => by rw [after1_14]; unfold Dat.blockOf blk1; rw [dat1_A]; try rfl) t d).trans
    (by unfold Dat.fetched Dat.blockOf blk1; rw [dat1_A]; try rfl)
theorem leaves1_0 (c : Dev nD) (t : Fin cfg1.N) :
    (dat1 V c).leavesExact 0 t = owns (c : Thread nD τ) (st1_0 t) fullShare (blk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (blk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (blk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (blk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (st1_4 t) fullShare (blk1 V c 4 t) := by
  unfold Dat.leavesExact; rw [show cfg1.idle 4 (cfg1.grid.coords t) = false from rfl, after1_4]
theorem leaves1_5 (c : Dev nD) (t : Fin cfg1.N) :
    (dat1 V c).leavesExact 5 t = owns (c : Thread nD τ) (st1_5 t) fullShare (blk1 V c 5 t) := by
  unfold Dat.leavesExact; rw [show cfg1.idle 5 (cfg1.grid.coords t) = false from rfl, after1_5]
theorem leaves1_6 (c : Dev nD) (t : Fin cfg1.N) :
    (dat1 V c).leavesExact 6 t = owns (c : Thread nD τ) (st1_6 t) fullShare (blk1 V c 6 t) := by
  unfold Dat.leavesExact; rw [show cfg1.idle 6 (cfg1.grid.coords t) = false from rfl, after1_6]
theorem leaves1_7 (c : Dev nD) (t : Fin cfg1.N) :
    (dat1 V c).leavesExact 7 t = owns (c : Thread nD τ) (st1_7 t) fullShare (blk1 V c 7 t) := by
  unfold Dat.leavesExact; rw [show cfg1.idle 7 (cfg1.grid.coords t) = false from rfl, after1_7]
theorem leaves1_8 (c : Dev nD) (t : Fin cfg1.N) :
    (dat1 V c).leavesExact 8 t = owns (c : Thread nD τ) (st1_8 t) fullShare (blk1 V c 8 t) := by
  unfold Dat.leavesExact; rw [show cfg1.idle 8 (cfg1.grid.coords t) = false from rfl, after1_8]
theorem leaves1_9 (c : Dev nD) (t : Fin cfg1.N) :
    (dat1 V c).leavesExact 9 t = owns (c : Thread nD τ) (st1_9 t) fullShare (blk1 V c 9 t) := by
  unfold Dat.leavesExact; rw [show cfg1.idle 9 (cfg1.grid.coords t) = false from rfl, after1_9]
theorem leaves1_10 (c : Dev nD) (t : Fin cfg1.N) :
    (dat1 V c).leavesExact 10 t = owns (c : Thread nD τ) (st1_10 t) fullShare (blk1 V c 10 t) := by
  unfold Dat.leavesExact; rw [show cfg1.idle 10 (cfg1.grid.coords t) = false from rfl, after1_10]
theorem leaves1_11 (c : Dev nD) (t : Fin cfg1.N) :
    (dat1 V c).leavesExact 11 t = owns (c : Thread nD τ) (st1_11 t) fullShare (blk1 V c 11 t) := by
  unfold Dat.leavesExact; rw [show cfg1.idle 11 (cfg1.grid.coords t) = false from rfl, after1_11]
theorem leaves1_12 (c : Dev nD) (t : Fin cfg1.N) :
    (dat1 V c).leavesExact 12 t = owns (c : Thread nD τ) (st1_12 t) fullShare (blk1 V c 12 t) := by
  unfold Dat.leavesExact; rw [show cfg1.idle 12 (cfg1.grid.coords t) = false from rfl, after1_12]
theorem leaves1_13 (c : Dev nD) (t : Fin cfg1.N) :
    (dat1 V c).leavesExact 13 t = owns (c : Thread nD τ) (st1_13 t) fullShare (blk1 V c 13 t) := by
  unfold Dat.leavesExact; rw [show cfg1.idle 13 (cfg1.grid.coords t) = false from rfl, after1_13]
theorem leaves1_14 (c : Dev nD) (t : Fin cfg1.N) :
    (dat1 V c).leavesExact 14 t = owns (c : Thread nD τ) (st1_14 t) fullShare (blk1 V c 14 t) := by
  unfold Dat.leavesExact; rw [show cfg1.idle 14 (cfg1.grid.coords t) = false from rfl, after1_14]
theorem leaves1_15 (c : Dev nD) (t : Fin cfg1.N) (h : t.val = 31) :
    (dat1 V c).leavesExact 15 t = owns (c : Thread nD τ) (st1_15 t) fullShare ((dat1 V c).after 15 t) := by
  unfold Dat.leavesExact; rw [live1_15 t h]
theorem leaves1_15_idle (c : Dev nD) (t : Fin cfg1.N) (h : t.val < 31) :
    (dat1 V c).leavesExact 15 t = iprop(∃ d, owns (c : Thread nD τ) (st1_15 t) fullShare ((dat1 V c).before 15 t d)) :=
  Dat.leavesExact_idle (dat1 V c) 15 t (idle1_15 t h) (stay1_15 t h)

/-- What the body starts a point with, window by window, -/
def pre1 (c : Dev nD) (t : Fin cfg1.N) : sProp 𝕄 :=
  iprop(iprop(idleRest1 c ∗ kept1 V c t.val) ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))
/-- and what it leaves. -/
def post1 (c : Dev nD) (t : Fin cfg1.N) : sProp 𝕄 :=
  iprop(iprop(idleRest1 c ∗ kept1 V c (t.val + 1)) ∗ (dat1 V c).owesAt () t.castSucc
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t)

set_option maxHeartbeats 1600000 in
/-- The first point. -/
theorem step1_first (c : Dev nD) (t : Fin cfg1.N) (ht : t.val = 0) :
    pre1 V c t ⊢ wp frame (wpE (defs₀ (F := F)) Variants.none c none) Set.univ (bodyAt1 t) (fun _ => post1 V c t) := by
  have hN := lt1 t
  unfold pre1 post1 bodyAt1
  simp only [before1_0, before1_1, before1_2, before1_3, before1_4, before1_5, before1_6, before1_7, before1_8, before1_9, before1_10, before1_11, before1_12, before1_13, before1_14, leaves1_0, leaves1_1, leaves1_2, leaves1_3, leaves1_4, leaves1_5, leaves1_6, leaves1_7, leaves1_8, leaves1_9, leaves1_10, leaves1_11, leaves1_12, leaves1_13, leaves1_14]
  rw [leaves1_15_idle V c t (by omega)]
  have ek : midKeep (blk1 V c 1 t) (blk1 V c 2 t) (blk1 V c 3 t) (blk1 V c 6 t) (blk1 V c 0 t) = keep2 V c t.val := by rw [keep2, tot1At, gam1At, bet1At, wgt2At, rows1At, pt1_val]
  have e0 : sum2 V c (min (0 + 1) 16) = midSum (blk1 V c 1 t) (blk1 V c 2 t) (blk1 V c 3 t) (blk1 V c 6 t) (blk1 V c 0 t) k1_pay1 := by
    rw [← pt1_val t, ht]; rfl
  have e1 : sq2 V c (min (0 + 1) 16) = midSq (blk1 V c 1 t) (blk1 V c 2 t) (blk1 V c 3 t) (blk1 V c 6 t) (blk1 V c 0 t) k1_pay2 := by
    rw [← pt1_val t, ht]; rfl
  rw [show kept1 V c t.val = kept1 V c 0 by rw [ht], show kept1 V c (t.val + 1) = kept1 V c (0 + 1) by rw [ht], kept1_zero, kept1_succ]
  rw [e0, e1]
  iintro ⟨⟨HR, ⟨%Y, HS0⟩, ⟨%Z, HS1⟩, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body1_first c (grid1.coords t) _ _ _ _ _ _ _ _ _ _ _ _ _ _ _ _ _ _ _ _ _ _ _ _ _ _ _ _ _ _ _ _ _ _ _ _ _ _ _ _ ((first1_iff t).mpr (by omega)) ((sweepA1_iff t).mpr (by omega)) (fun h => absurd ((sweepB1_iff t).mp h) (by omega)) (fun h => absurd ((last1_iff t).mp h) (by omega)) (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) _ Y Z Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HR HS0 HS1 HS2 HS3]
  · isplitl [HR]; · iexact HR
    isplitl [HS0]
    · iexists _; isplitr; swap; (· iexact HS0); ipureintro; rw [ek]; have h := keeps_step (keep2 V c) Y t (by omega) ((sweepA1_iff t).mpr (by omega)) (fun y hy => absurd hy (by rw [ht]; omega)); rw [show t.val + 1 = min (0 + 1) 16 by omega] at h; exact h
    isplitl [HS1]
    · iexists _; isplitr; swap; (· iexact HS1); ipureintro; exact fun y hy => absurd hy (by omega)
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
/-- The first sweep's other points. -/
theorem step1_sweepA (c : Dev nD) (t : Fin cfg1.N) (ht : 0 < t.val ∧ t.val < 16) :
    pre1 V c t ⊢ wp frame (wpE (defs₀ (F := F)) Variants.none c none) Set.univ (bodyAt1 t) (fun _ => post1 V c t) := by
  have hN := lt1 t
  unfold pre1 post1 bodyAt1
  simp only [before1_0, before1_1, before1_2, before1_3, before1_4, before1_5, before1_6, before1_7, before1_8, before1_9, before1_10, before1_11, before1_12, before1_13, before1_14, leaves1_0, leaves1_1, leaves1_2, leaves1_3, leaves1_4, leaves1_5, leaves1_6, leaves1_7, leaves1_8, leaves1_9, leaves1_10, leaves1_11, leaves1_12, leaves1_13, leaves1_14]
  rw [leaves1_15_idle V c t (by omega)]
  obtain ⟨n, hn⟩ : ∃ n, t.val = n + 1 := ⟨t.val - 1, by omega⟩
  have ek : midKeep (blk1 V c 1 t) (blk1 V c 2 t) (blk1 V c 3 t) (blk1 V c 6 t) (blk1 V c 0 t) = keep2 V c t.val := by rw [keep2, tot1At, gam1At, bet1At, wgt2At, rows1At, pt1_val]
  have e0 : sum2 V c (min (n + 1 + 1) 16) = midSum (blk1 V c 1 t) (blk1 V c 2 t) (blk1 V c 3 t) (blk1 V c 6 t) (blk1 V c 0 t) (sum2 V c (min (n + 1) 16)) := by
    rw [show min (n + 1 + 1) 16 = n + 1 + 1 by omega, show min (n + 1) 16 = n + 1 by omega, ← hn, sum2, tot1At, gam1At, bet1At, wgt2At, rows1At, pt1_val]
  have e1 : sq2 V c (min (n + 1 + 1) 16) = midSq (blk1 V c 1 t) (blk1 V c 2 t) (blk1 V c 3 t) (blk1 V c 6 t) (blk1 V c 0 t) (sq2 V c (min (n + 1) 16)) := by
    rw [show min (n + 1 + 1) 16 = n + 1 + 1 by omega, show min (n + 1) 16 = n + 1 by omega, ← hn, sq2, tot1At, gam1At, bet1At, wgt2At, rows1At, pt1_val]
  rw [show kept1 V c t.val = kept1 V c (n + 1) by rw [hn], show kept1 V c (t.val + 1) = kept1 V c (n + 1 + 1) by rw [hn], kept1_succ, kept1_succ]
  rw [e0, e1]
  iintro ⟨⟨HR, ⟨%Y, %hY, HS0⟩, ⟨%Z, %hZ, HS1⟩, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body1_sweepA c (grid1.coords t) _ _ _ _ _ _ _ _ _ _ _ _ _ _ _ _ _ _ _ _ _ _ _ _ _ _ _ _ _ _ _ _ _ _ _ _ _ _ _ _ (fun h => absurd ((first1_iff t).mp h) (by omega)) ((sweepA1_iff t).mpr (by omega)) (fun h => absurd ((sweepB1_iff t).mp h) (by omega)) (fun h => absurd ((last1_iff t).mp h) (by omega)) (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) _ Y Z _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HR HS0 HS1 HS2 HS3]
  · isplitl [HR]; · iexact HR
    isplitl [HS0]
    · iexists _; isplitr; swap; (· iexact HS0); ipureintro; rw [show min (n + 1) 16 = t.val by omega] at hY; rw [ek, show min (n + 1 + 1) 16 = t.val + 1 by omega]; exact keeps_step (keep2 V c) Y t (by omega) ((sweepA1_iff t).mpr (by omega)) hY
    isplitl [HS1]
    · iexists _; isplitr; swap; (· iexact HS1); ipureintro; exact fun y hy => absurd hy (by omega)
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
/-- The second sweep before its last point. -/
theorem step1_sweepB (c : Dev nD) (t : Fin cfg1.N) (ht : 16 ≤ t.val ∧ t.val < 31) :
    pre1 V c t ⊢ wp frame (wpE (defs₀ (F := F)) Variants.none c none) Set.univ (bodyAt1 t) (fun _ => post1 V c t) := by
  have hN := lt1 t
  unfold pre1 post1 bodyAt1
  simp only [before1_0, before1_1, before1_2, before1_3, before1_4, before1_5, before1_6, before1_7, before1_8, before1_9, before1_10, before1_11, before1_12, before1_13, before1_14, leaves1_0, leaves1_1, leaves1_2, leaves1_3, leaves1_4, leaves1_5, leaves1_6, leaves1_7, leaves1_8, leaves1_9, leaves1_10, leaves1_11, leaves1_12, leaves1_13, leaves1_14]
  rw [leaves1_15_idle V c t (by omega)]
  obtain ⟨n, hn⟩ : ∃ n, t.val = n + 1 := ⟨t.val - 1, by omega⟩
  have et : tops (sum2 V c (min (n + 1) 16)) (sq2 V c (min (n + 1) 16)) (blk1 V c 4 t) (blk1 V c 5 t) (keep2 V c (t.val - 16)) = top2 V c (t.val - 16) := by
    rw [top2, show min (n + 1) 16 = 16 by omega, show 16 + (t.val - 16) = t.val by omega, gam2At, bet2At, pt1_val]
  rw [show kept1 V c t.val = kept1 V c (n + 1) by rw [hn], show kept1 V c (t.val + 1) = kept1 V c (n + 1 + 1) by rw [hn], kept1_succ, kept1_succ]
  rw [show sum2 V c (min (n + 1 + 1) 16) = sum2 V c (min (n + 1) 16) from congrArg _ (by omega),
    show sq2 V c (min (n + 1 + 1) 16) = sq2 V c (min (n + 1) 16) from congrArg _ (by omega)]
  iintro ⟨⟨HR, ⟨%Y, %hY, HS0⟩, ⟨%Z, %hZ, HS1⟩, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hY16 : Keeps (keep2 V c) Y 16 := by rw [show min (n + 1) 16 = 16 by omega] at hY; exact hY
  have hb := keeps_back (keep2 V c) Y t (by omega) ((sweepB1_iff t).mpr (by omega)) hY16
  have hZ' : Stacks (top2 V c) Z (t.val - 16) := by rw [show t.val - 16 = n + 1 - 16 by omega]; exact hZ
  have hz := stacks_step (top2 V c) Z t (by omega) ((sweepB1_iff t).mpr (by omega)) hZ'
  iapply (body1_sweepB c (grid1.coords t) _ _ _ _ _ _ _ _ _ _ _ _ _ _ _ _ _ _ _ _ _ _ _ _ _ _ _ _ _ _ _ _ _ _ _ _ _ _ _ _ (fun h => absurd ((first1_iff t).mp h) (by omega)) (fun h => absurd ((sweepA1_iff t).mp h) (by omega)) ((sweepB1_iff t).mpr (by omega)) (fun h => absurd ((last1_iff t).mp h) (by omega)) (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) _ Y Z _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  rw [hb, et]
  iintro ⟨H0, H1, H2, H3, H4, H5, H6, H7, H8, H9, H10, H11, H12, H13, H14, H15, HS0, HS1, HS2, HS3⟩
  isplitl [HR HS0 HS1 HS2 HS3]
  · isplitl [HR]; · iexact HR
    isplitl [HS0]
    · iexists _; isplitr; swap; (· iexact HS0); ipureintro; rw [show min (n + 1 + 1) 16 = 16 by omega]; exact hY16
    isplitl [HS1]
    · iexists _; isplitr; swap; (· iexact HS1); ipureintro; rw [show n + 1 + 1 - 16 = t.val - 16 + 1 by omega]; exact hz
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
/-- The last point. -/
theorem step1_last (c : Dev nD) (t : Fin cfg1.N) (ht : t.val = 31) :
    pre1 V c t ⊢ wp frame (wpE (defs₀ (F := F)) Variants.none c none) Set.univ (bodyAt1 t) (fun _ => post1 V c t) := by
  have hN := lt1 t
  unfold pre1 post1 bodyAt1
  simp only [before1_0, before1_1, before1_2, before1_3, before1_4, before1_5, before1_6, before1_7, before1_8, before1_9, before1_10, before1_11, before1_12, before1_13, before1_14, leaves1_0, leaves1_1, leaves1_2, leaves1_3, leaves1_4, leaves1_5, leaves1_6, leaves1_7, leaves1_8, leaves1_9, leaves1_10, leaves1_11, leaves1_12, leaves1_13, leaves1_14]
  rw [leaves1_15 V c t (by omega)]
  obtain ⟨n, hn⟩ : ∃ n, t.val = n + 1 := ⟨t.val - 1, by omega⟩
  have et : tops (sum2 V c (min (n + 1) 16)) (sq2 V c (min (n + 1) 16)) (blk1 V c 4 t) (blk1 V c 5 t) (keep2 V c (t.val - 16)) = top2 V c (t.val - 16) := by
    rw [top2, show min (n + 1) 16 = 16 by omega, show 16 + (t.val - 16) = t.val by omega, gam2At, bet2At, pt1_val]
  rw [after1_15]
  rw [show kept1 V c t.val = kept1 V c (n + 1) by rw [hn], show kept1 V c (t.val + 1) = kept1 V c (n + 1 + 1) by rw [hn], kept1_succ, kept1_succ]
  rw [show sum2 V c (min (n + 1 + 1) 16) = sum2 V c (min (n + 1) 16) from congrArg _ (by omega),
    show sq2 V c (min (n + 1 + 1) 16) = sq2 V c (min (n + 1) 16) from congrArg _ (by omega)]
  iintro ⟨⟨HR, ⟨%Y, %hY, HS0⟩, ⟨%Z, %hZ, HS1⟩, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hY16 : Keeps (keep2 V c) Y 16 := by rw [show min (n + 1) 16 = 16 by omega] at hY; exact hY
  have hb := keeps_back (keep2 V c) Y t (by omega) ((sweepB1_iff t).mpr (by omega)) hY16
  have hZ' : Stacks (top2 V c) Z (t.val - 16) := by rw [show t.val - 16 = n + 1 - 16 by omega]; exact hZ
  have hz := stacks_step (top2 V c) Z t (by omega) ((sweepB1_iff t).mpr (by omega)) hZ'
  have hp : topsAt (grid1.coords t) ((sweepB1_iff t).mpr (by omega)) Z (top2 V c (t.val - 16)) = pooled V c :=
    stack_of _ _ (by rw [show t.val - 16 + 1 = 16 by omega] at hz; exact hz)
  have el : ending (sum2 V c (min (n + 1) 16)) (sq2 V c (min (n + 1) 16)) (blk1 V c 4 t) (blk1 V c 7 t) (pooled V c) (blk1 V c 8 t) (blk1 V c 9 t) (blk1 V c 10 t) (blk1 V c 11 t) (blk1 V c 12 t) (blk1 V c 13 t) (blk1 V c 14 t) = last2 V c t.val := by
    rw [last2, show min (n + 1) 16 = 16 by omega, gam2At, wo1At, bo1At, wo2At, bo2At, wm1At, bm1At, wm2At, bm2At, pt1_val]
  iapply (body1_last c (grid1.coords t) _ _ _ _ _ _ _ _ _ _ _ _ _ _ _ _ _ _ _ _ _ _ _ _ _ _ _ _ _ _ _ _ _ _ _ _ _ _ _ _ (fun h => absurd ((first1_iff t).mp h) (by omega)) (fun h => absurd ((sweepA1_iff t).mp h) (by omega)) ((sweepB1_iff t).mpr (by omega)) ((last1_iff t).mpr (by omega)) (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) Y Z _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [HS0]; · iexact HS0
  isplitl [HS1]; · iexact HS1
  isplitl [HS2]; · iexact HS2
  isplitl [HS3]; · iexact HS3
  rw [hb, et, hp, el]
  iintro ⟨H0, H1, H2, H3, H4, H5, H6, H7, H8, H9, H10, H11, H12, H13, H14, H15, HS0, HS1, HS2, HS3⟩
  isplitl [HR HS0 HS1 HS2 HS3]
  · isplitl [HR]; · iexact HR
    isplitl [HS0]
    · iexists _; isplitr; swap; (· iexact HS0); ipureintro; rw [show min (n + 1 + 1) 16 = 16 by omega]; exact hY16
    isplitl [HS1]
    · iexists _; isplitr; swap; (· iexact HS1); ipureintro; rw [show n + 1 + 1 - 16 = t.val - 16 + 1 by omega]; rw [hp] at hz; exact hz
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body's row of the launch's table is the body at the point. -/
theorem row1_eq (t : Fin cfg1.N) : defs₀ (F := F) .tc cfg1.body (cfg1.bodyArgs t (cfg1.slots t)) = bodyAt1 t := by
  unfold defs₀; rw [Defs.onTc_tc]

/-- The body does at every point what the proof data says. -/
theorem body1 (c : Dev nD) : BodyObligation (dat1 (F := F) V c) (defs₀ (F := F)) Variants.none () Set.univ := fun t => by
  rw [bigSep_W1, bigSep_W1, row1_eq]
  have h : pre1 V c t ⊢ wp frame (wpE (defs₀ (F := F)) Variants.none c none) Set.univ (bodyAt1 t) (fun _ => post1 V c t) := by
    have hN := lt1 t
    by_cases h0 : t.val = 0
    · exact step1_first V c t h0
    by_cases h1 : t.val < 16
    · exact step1_sweepA V c t ⟨by omega, h1⟩
    by_cases h2 : t.val < 31
    · exact step1_sweepB V c t ⟨by omega, h2⟩
    · exact step1_last V c t (by omega)
  exact triple_restated h rfl .rfl fun _ => .rfl

/-- The scratch split off the scoped buffers. -/
theorem split1 (c : Dev nD) : (Pipeline.scopedRest (Ix := Unit) (Name := ℕ) (U := UR sig nD τ) (Lvl := ℕ) (Val := Elt F) spec1 c : sProp 𝕄)
    = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ idleRest1 c) :=
  Pipeline.scopedRest_split_of_list spec1 c [cc1_scratch0, cc1_scratch1, cc1_scratch2, cc1_scratch3] (by decide) (by decide)

/-- The launch's scratch enters the invariant, -/
theorem in1 (c : Dev nD) : Pipeline.scopedRest (Ix := Unit) (Name := ℕ) (U := UR sig nD τ) (Lvl := ℕ) (Val := Elt F) spec1 c ⊢ (dat1 V c).Φ 0 := by
  rw [show (dat1 V c).Φ 0 = iprop(idleRest1 c ∗ kept1 V c 0) from rfl, split1, kept1_zero]
  simp only [owns_whole]
  iintro ⟨HS, HR⟩
  isplitl [HR]; · iexact HR
  iexact HS

/-- and leaves it. -/
theorem out1 (c : Dev nD) : (dat1 V c).Φ (Fin.last cfg1.N) ⊢ Pipeline.scopedRest (Ix := Unit) (Name := ℕ) (U := UR sig nD τ) (Lvl := ℕ) (Val := Elt F) spec1 c := by
  rw [show (dat1 V c).Φ (Fin.last cfg1.N) = iprop(idleRest1 c ∗ kept1 V c (31 + 1)) from by
    dsimp only [dat1]; rw [Fin.val_last, show cfg1.N = 31 + 1 from N_1], split1, kept1_succ]
  simp only [owns_whole]
  iintro ⟨HR, ⟨%Y, -, HS0⟩, ⟨%Z, -, HS1⟩, HS2, HS3⟩
  isplitr [HR]
  · isplitl [HS0]; · iexists _; iexact HS0
    isplitl [HS1]; · iexists _; iexact HS1
    isplitl [HS2]; · iexists _; iexact HS2
    iexists _; iexact HS3
  iexact HR

end Cert.KernelIdeal.Own

end
-- ==== Proof.Ideal.Run.lean ====
/-
  The whole program: the two launches between the host's operations, and what every buffer holds at the end.
-/
module

public import proofs.«01_k».proof.Proof.Ideal.Region0
public import proofs.«01_k».proof.Proof.Ideal.Region1
public import proofs.«01_k».proof.Proof.Gen.KernelIdeal.Regions
public import Idealize.ShloMosaic.Lib.Pipeline.RegionArraysS
public import Idealize.ShloMosaic.Lib.StableHlo.RunHlo

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]

local notation "𝕄" => MT nD τ sig Unit (Elt F) ℕ (UR sig nD τ) ℕ

variable (m : (ℓ : Loc nD τ sig) → Buf (Elt F) ℓ)

/-- The buffers as the first launch finds them, -/
def at0 (c : Dev nD) (b : Ref sig .tc) : Buf (Elt F) ((c : Thread nD τ).loc b) := V1 m c b

/-- and what the first launch leaves in them. -/
def outsA : Outs (F := F) := fun _ r c => Pipeline.afterRegion (dat0 (at0 m) c) (V1 m c) r

/-- The buffers as the second launch finds them, -/
def at1 (c : Dev nD) (b : Ref sig .tc) : Buf (Elt F) ((c : Thread nD τ).loc b) := V3 m (outsA m) c b

/-- and what each launch leaves. -/
def outs : Outs (F := F) := fun J r c =>
  if J = 4 then Pipeline.afterRegion (dat1 (at1 m) c) (V3 m (outsA m) c) r else outsA m J r c

theorem V2_outs (c : Dev nD) : V2 m (outs m) c = V2 m (outsA m) c := rfl
theorem V3_outs (c : Dev nD) : V3 m (outs m) c = V3 m (outsA m) c := rfl

/-- The proof data of the two launches. -/
def pdats : (p : Fin 2) → (c : Dev nD) → Dat τ (Elt F) Unit ℕ (UR sig nD τ) ℕ (cfgs p) c
  | 0, c => dat0 (at0 m) c
  | 1, c => dat1 (at1 m) c

/-- Every cell of a core's own thread carries the one index; its level is zero. -/
def L (g : GSem nD τ sig) : Finset Unit := if g.1.2 = .tc then {()} else ∅
def lv (_ : GSem nD τ sig) (_ : Unit) : ℕ := 0

theorem L_tc (c : Dev nD) (s) : () ∈ L ((c : Thread nD τ), s) := by
  show () ∈ (if ((c : Thread nD τ)).2 = .tc then {()} else ∅ : Finset Unit)
  rw [if_pos rfl]; exact Finset.mem_singleton_self _

theorem cut (p : Fin 2) : Pipeline.LevelCut (pcfgs (F := F)) adm () L lv p (fun _ : Dev nD => (0 : CellTallies nD τ sig Unit)) (fun _ => 0) where
  hι c w s := L_tc c _
  hιb c w s := le_refl 0
  hD c g i h := absurd h (lt_irrefl _)

/-- What rides beside the buffers: the core owes nothing. -/
def rest (c : Dev nD) : sProp 𝕄 := iprop((∃ W, owes (c : Thread nD τ) (0 : CellTallies nD τ sig Unit) W) ∗ emp ∗ emp)

theorem drop_emp (P : sProp 𝕄) : iprop(P ∗ emp) ⊢ P := by
  iintro ⟨H, -⟩
  iexact H

theorem add_emp (P : sProp 𝕄) : P ⊢ iprop(P ∗ emp) := by
  iintro H
  isplitl [H]; · iexact H
  iempintro

set_option backward.isDefEq.respectTransparency.types false in
/-- The first launch's record, -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (body0 (at0 m) c).loose) (fun _ _ => rfl) (fun _ => rfl)
    (fun c => (dat0 (at0 m) c).share_full fun _ => rfl)
    (fun c => BI.Entails.trans (drop_emp _) (in0 (at0 m) c)) (fun c => BI.Entails.trans (out0 (at0 m) c) (add_emp _))
    (fun _ => 0) (cut 0) (fun _ => iprop(emp)) (fun c => V1 m c)
    (fun c w => dat0_A (at0 m) c w)

set_option backward.isDefEq.respectTransparency.types false in
/-- and the second's. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => (body1 (at1 m) c).loose) (fun _ _ => rfl) (fun _ => rfl)
    (fun c => (dat1 (at1 m) c).share_full fun _ => rfl)
    (fun c => BI.Entails.trans (drop_emp _) (in1 (at1 m) c)) (fun c => BI.Entails.trans (out1 (at1 m) c) (add_emp _))
    (fun _ => 0) (cut 1) (fun _ => iprop(emp)) (fun c => V3 m (outsA m) c)
    (fun c w => dat1_A (at1 m) c w)

theorem sub0 : Pipeline.arrRefs (τ := τ) ((pcfgs (F := F)) 0).spec ⊆ Pipeline.ucRefs τ sig := Pipeline.arrRefs_sub_ucRefs _ (launch0.toP (Val := Elt F)).win.arr_unscoped
theorem sub1 : Pipeline.arrRefs (τ := τ) ((pcfgs (F := F)) 1).spec ⊆ Pipeline.ucRefs τ sig := Pipeline.arrRefs_sub_ucRefs _ (launch1.toP (Val := Elt F)).win.arr_unscoped

/-- A window of the first launch that writes an array writes one of its two results. -/
theorem in_only0 (w : Fin cfg0.W) (h : Pipeline.arrRef spec0 w ∉ ([main_v8_0, main_v8_1] : List (Ref sig .tc))) : (cfg0.win w).isOut = false := by
  revert w; decide
/-- A window of the second launch that writes an array writes its result. -/
theorem in_only1 (w : Fin cfg1.W) (h : Pipeline.arrRef spec1 w ∉ ([main_v19] : List (Ref sig .tc))) : (cfg1.win w).isOut = false := by
  revert w; decide

theorem V2_fst (c : Dev nD) : V2 m (outs m) c main_v8_0 = outs m 2 main_v8_0 c := by
  simp only [V2]
  rw [Function.update_of_ne (StableHlo.devRef_ne_of_ne (show main_v8_0 ≠ main_v8_1 by decide)), Function.update_self]
theorem V2_snd (c : Dev nD) : V2 m (outs m) c main_v8_1 = outs m 2 main_v8_1 c := by
  simp only [V2]
  rw [Function.update_self]
theorem V4_res (c : Dev nD) : V4 m (outs m) c main_v19 = outs m 4 main_v19 c := by
  simp only [V4]
  rw [Function.update_self]

theorem V2_after (c : Dev nD) (b : DevRef τ sig) (hb : b ∈ Pipeline.ucRefs τ sig) :
    Pipeline.afterRegion (dat0 (at0 m) c) (V1 m c) b = V2 m (outs m) c b := by
  obtain ⟨r, -, rfl⟩ := Finset.mem_map.mp (Finset.mem_filter.mp hb).1
  by_cases h : r ∈ ([main_v8_0, main_v8_1] : List (Ref sig .tc))
  · rcases List.mem_cons.mp h with rfl | h
    · exact (V2_fst m c).symm
    · obtain rfl := List.mem_singleton.mp h
      exact (V2_snd m c).symm
  · refine (Pipeline.afterRegion_keeps (dat0 (at0 m) c) (V1 m c) winFacts0.arr_inj (fun w => dat0_A (at0 m) c w) r fun w hw => in_only0 w (hw ▸ h)).trans ?_
    exact (V2_of m (outs m) c r h).symm

theorem V4_after (c : Dev nD) (b : DevRef τ sig) (hb : b ∈ Pipeline.ucRefs τ sig) :
    Pipeline.afterRegion (dat1 (at1 m) c) (V3 m (outsA m) c) b = V4 m (outs m) c b := by
  obtain ⟨r, -, rfl⟩ := Finset.mem_map.mp (Finset.mem_filter.mp hb).1
  by_cases h : r ∈ ([main_v19] : List (Ref sig .tc))
  · obtain rfl := List.mem_singleton.mp h
    exact (V4_res m c).symm
  · refine (Pipeline.afterRegion_keeps (dat1 (at1 m) c) (V3 m (outsA m) c) winFacts1.arr_inj (fun w => dat1_A (at1 m) c w) r fun w hw => in_only1 w (hw ▸ h)).trans ?_
    exact (V4_of m (outs m) c r h).symm

set_option backward.isDefEq.respectTransparency.types false in
theorem enter0 (c : Dev nD) : iprop(StableHlo.held (c : Thread nD τ) (Pipeline.ucRefs τ sig) (V1 m c) ∗ rest (F := F) c) ⊢ (reg0 m).pre c := by
  unfold reg0 rest
  refine BI.Entails.trans ?_ (RegionSeg.ofHeldIn_pre (p := 0) sub0 c)
  exact BI.Entails.refl _

set_option backward.isDefEq.respectTransparency.types false in
theorem leave0 (c : Dev nD) : (reg0 m).post c ⊢ iprop(StableHlo.held (c : Thread nD τ) (Pipeline.ucRefs τ sig) (V2 m (outs m) c) ∗ rest (F := F) c) := by
  rw [← StableHlo.held_congr (c : Thread nD τ) (V2_after m c)]
  unfold reg0 rest
  exact RegionSeg.ofHeldIn_post (p := 0) sub0 c

set_option backward.isDefEq.respectTransparency.types false in
theorem enter1 (c : Dev nD) : iprop(StableHlo.held (c : Thread nD τ) (Pipeline.ucRefs τ sig) (V3 m (outs m) c) ∗ rest (F := F) c) ⊢ (reg1 m).pre c := by
  unfold reg1 rest
  refine BI.Entails.trans ?_ (RegionSeg.ofHeldIn_pre (p := 1) sub1 c)
  exact BI.Entails.refl _

set_option backward.isDefEq.respectTransparency.types false in
theorem leave1 (c : Dev nD) : (reg1 m).post c ⊢ iprop(StableHlo.held (c : Thread nD τ) (Pipeline.ucRefs τ sig) (V4 m (outs m) c) ∗ rest (F := F) c) := by
  rw [← StableHlo.held_congr (c : Thread nD τ) (V4_after m c)]
  unfold reg1 rest
  exact RegionSeg.ofHeldIn_post (p := 1) sub1 c

/-- The cells of the windows' counters, at the start. -/
def u₀ : UR sig nD τ := initOf (Pipeline.cells cfgs cellOf_inj) (Pipeline.launchToks cfgs cellOf_inj)

/-- Their algebra is the whole of the user part. -/
def EP : Emb (URounds (GSem nD τ sig) Unit) 𝕄 :=
  (Emb.refl _).trans (uEmb (nD := nD) (sig := sig) (Ix := Unit) (Val := Elt F) (Name := ℕ) (U := UR sig nD τ) (Lvl := ℕ)).toEmb

instance : (EP (F := F)).LandsIn (upEmb : UEmb _ 𝕄) := by unfold EP; infer_instance

set_option backward.isDefEq.respectTransparency.types false in
/-- From any memory with zero counters the program ends with every buffer of the device at the last valuation. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem (((c : Thread nD τ).1, b)) = V5 m (outs m) c b) ∧ r.2.sem = fun _ => 0) := by
  refine Pipeline.θ_run_regions_kit_dev_sems (pcfgs (F := F)) adm (pdats m) () cellOf_inj EP defs₀ Variants.none L lv m ρ main
    (segs m (outs m) Variants.none L lv (fun _ => rest) () (pdats m) (reg0 m) (reg1 m))
    (fun c Q => by
      rewrite [main_chain c, Seg.run_eq_chain,
        show (segs m (outs m) Variants.none L lv (fun _ => rest) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g h => if_neg h) (fun _ => iprop(emp)) u₀ ?_
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, enter0 m c, leave0 m c, enter1 m c, leave1 m c, sep_mono .rfl ?_⟩)
    (hinit := ?_) (QY := fun c s => ∀ b ∈ Pipeline.ucRefs τ sig, s.mem (((c : Thread nD τ).1, b)) = V5 m (outs m) c b)
    (hfin := fun c s' => ?_) (hQ := fun _ h hz => ⟨h, funext fun g => hz g (.inr (regions_no_unscoped g.2))⟩)
  · iintro Hu
    imodintro
    isplitl [Hu]
    · iapply (show (ownU u₀ : sProp 𝕄) ⊢ BI.own (EP (initOf (Pipeline.cells cfgs cellOf_inj) (Pipeline.launchToks cfgs cellOf_inj))) from BI.Entails.refl _)
      iexact Hu
    iapply (show (BI.emp : sProp 𝕄) ⊢ bigSep Finset.univ (fun _ : Dev nD => (BI.emp : sProp 𝕄)) from by rw [BI.bigSep_emp_const])
    iempintro
  · unfold rest
    iintro ⟨H, -⟩
    iexact H
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    unfold rest
    iintro ⟨⟨Hh, -, HO, -, -, -⟩, -⟩
    imodintro
    isplitl [Hh]; · iexact Hh
    isplitl [HO]
    · iexists ∅; iexact HO
    isplitl [] <;> iempintro
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact h
    iexact HSI

/-- Reading one buffer of the tensor core off the end. -/
theorem run_read (ρ : Dev nD → PrngReg) :
    θ_run defs (onTc (τ := τ) (main (F := F))) ⟨m, fun _ => 0, ρ⟩ (fun r =>
      (∀ c : Dev nD, ∀ b : Ref sig .tc, b.isScoped = false → r.2.mem ((c : Thread nD τ).loc b) = V5 m (outs m) c b) ∧ r.2.sem = fun _ => 0) :=
  (Idealize.ShloMosaic.θ_run_mono (run_all m ρ) fun r h => ⟨fun c b hb => h.1 c (Proc.devRef .tc b)
    (Finset.mem_filter.mpr ⟨StableHlo.devRef_mem_tcRefs b, fun h' => Bool.false_ne_true (hb.symm.trans h')⟩), h.2⟩)

end Cert.KernelIdeal.Own
-- ==== Proof.Ideal.Frame.lean ====
/-
  The program runs, leaves its arguments as they were and ends with every counter at zero.
-/
module

public import proofs.«01_k».proof.Defs
public import proofs.«01_k».proof.Proof.Ideal.Run
public import proofs.«01_k».proof.Proof.Gen.KernelIdeal

@[expose] public section

set_option maxRecDepth 16384

noncomputable section

namespace Cert.KernelIdeal.Own

open Cert.KernelIdeal.Gen
open Idealize.ShloMosaic Idealize.ShloMosaic.TcCoe
open Idealize.SL Idealize.SL.Sem

/-- What is asked of a state at the end: the arguments as they were, every counter at zero. -/
theorem frame (m : (ℓ : Loc nD τ sig) → Buf (Elt Ideal) ℓ) (ρ : Dev nD → PrngReg) : Cert.Pre_KernelIdeal m →
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) := fun _ =>
  Idealize.ShloMosaic.θ_run_mono (run_read m ρ) fun r h => ⟨fun c =>
    ⟨(h.1 c main_arg0 rfl).trans (V5_main_arg0 m (outs m) c),
      (h.1 c main_arg1 rfl).trans (V5_main_arg1 m (outs m) c),
      (h.1 c main_arg2 rfl).trans (V5_main_arg2 m (outs m) c),
      (h.1 c main_arg3 rfl).trans (V5_main_arg3 m (outs m) c),
      (h.1 c main_arg4 rfl).trans (V5_main_arg4 m (outs m) c),
      (h.1 c main_arg5 rfl).trans (V5_main_arg5 m (outs m) c),
      (h.1 c main_arg6 rfl).trans (V5_main_arg6 m (outs m) c),
      (h.1 c main_arg7 rfl).trans (V5_main_arg7 m (outs m) c),
      (h.1 c main_arg8 rfl).trans (V5_main_arg8 m (outs m) c),
      (h.1 c main_arg9 rfl).trans (V5_main_arg9 m (outs m) c),
      (h.1 c main_arg10 rfl).trans (V5_main_arg10 m (outs m) c),
      (h.1 c main_arg11 rfl).trans (V5_main_arg11 m (outs m) c),
      (h.1 c main_arg12 rfl).trans (V5_main_arg12 m (outs m) c),
      (h.1 c main_arg13 rfl).trans (V5_main_arg13 m (outs m) c),
      (h.1 c main_arg14 rfl).trans (V5_main_arg14 m (outs m) c),
      (h.1 c main_arg15 rfl).trans (V5_main_arg15 m (outs m) c),
      (h.1 c main_arg16 rfl).trans (V5_main_arg16 m (outs m) c),
      (h.1 c main_arg17 rfl).trans (V5_main_arg17 m (outs m) c),
      (h.1 c main_arg18 rfl).trans (V5_main_arg18 m (outs m) c)⟩, h.2⟩

end Cert.KernelIdeal.Own

namespace Cert.Proof

theorem frame_ideal : Cert.quiescent_KernelIdeal (hKernelIdeal := Cert.KernelIdeal.Gen.facts) := Cert.KernelIdeal.Own.frame

end Cert.Proof
-- ==== Proof.Ref.Frame.lean ====
/-
  The reference runs, leaves its arguments as they were and has no counter to leave behind.
-/
module

public import proofs.«01_k».proof.Defs
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof
-- ==== Proof.Net.Maths.lean ====
/-
  The network in mathematics: matrices are functions of a row number and a column number, the batch normalisation is stated over the
  reals, and the facts about it are proved here away from any program: the two forms of the variance agree, the normalisation is one
  multiplication and one addition, a positive scale passes through a rectifier and through a maximum, sums over blocks of rows are sums
  over the rows.
-/
module

public import Mathlib.Data.EReal.Operations
public import Mathlib.Data.EReal.Inv
public import Mathlib.Tactic.Ring
public import Mathlib.Tactic.FieldSimp
public import Mathlib.Tactic.NormNum
public import Mathlib.Tactic.Positivity
public import Mathlib.Algebra.BigOperators.Intervals
public import Idealize.ShloMosaic.PureOps.Ideal.Laws
public import Idealize.ShloMosaic.Lib.IdealHost

@[expose] public section

noncomputable section

namespace Cert.Net

open Idealize.ShloMosaic Finset

/-- The small number added to a variance, and the number of rows. -/
def eps : ℝ := (Ideal.ofBits .f32 0x3727C5AC#32).toReal

theorem eps_pos_coe : ∃ r : ℝ, 0 < r ∧ Ideal.ofBits .f32 0x3727C5AC#32 = (r : EReal) := by
  refine ⟨_, ?_, by simp [Ideal.ofBits, Ideal.ieee]; rfl⟩
  positivity
theorem eps_pos : 0 < eps := by
  obtain ⟨r, h, e⟩ := eps_pos_coe
  unfold eps; rw [e]; exact h
theorem ofBits_eps : Ideal.ofBits .f32 0x3727C5AC#32 = (eps : EReal) := by
  obtain ⟨r, h, e⟩ := eps_pos_coe
  unfold eps; rw [e]; rfl
theorem ofBits_rows : Ideal.ofBits .f32 0x47800000#32 = ((65536 : ℝ) : EReal) := by
  simp [Ideal.ofBits, Ideal.ieee]
  rw [← EReal.coe_mul]
  norm_num
theorem ofBits_ninf : Ideal.ofBits .f32 0xFF800000#32 = ⊥ := by
  simp [Ideal.ofBits, Ideal.ieee]
theorem ofBits_inf : Ideal.ofBits .f32 0x7F800000#32 = ⊤ := by
  simp [Ideal.ofBits, Ideal.ieee]
theorem ofBits_ninf16 : Ideal.ofBits .bf16 0xFF80#16 = ⊥ := by
  simp [Ideal.ofBits, Ideal.ieee]

/-- A product of matrices over `d` columns of the left one, -/
def lin (d : ℕ) (X W : ℕ → ℕ → ℝ) (r k : ℕ) : ℝ := ∑ c ∈ range d, X r c * W c k
/-- and the same of extended reals. -/
def linE (d : ℕ) (X W : ℕ → ℕ → EReal) (r k : ℕ) : EReal := ∑ c ∈ range d, X r c * W c k
/-- The sum of a column over `n` rows, -/
def tot (n : ℕ) (Y : ℕ → ℕ → ℝ) (k : ℕ) : ℝ := ∑ r ∈ range n, Y r k
/-- and the largest entry of a column over `n` rows. -/
def topE (n : ℕ) (Y : ℕ → ℕ → EReal) (k : ℕ) : EReal := (range n).sup fun r => Y r k
/-- The largest of real entries is real. -/
def top (n : ℕ) (Y : ℕ → ℕ → ℝ) (k : ℕ) : ℝ := (topE n (fun r k => (Y r k : EReal)) k).toReal

theorem coe_top {n : ℕ} (hn : 0 < n) (Y : ℕ → ℕ → ℝ) (k : ℕ) : ((top n Y k : ℝ) : EReal) = topE n (fun r k => (Y r k : EReal)) k := by
  obtain ⟨i, -, hi⟩ := Finset.exists_mem_eq_sup (range n) ⟨0, mem_range.2 hn⟩ fun r => (Y r k : EReal)
  unfold top topE
  rw [hi]; rfl

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem coe_max (a b : ℝ) : ((max a b : ℝ) : EReal) = max (a : EReal) (b : EReal) :=
  (Monotone.map_max EReal.coe_strictMono.monotone)

/-- Sums over `a` blocks of `b` rows are sums over the rows. -/
theorem sum_blocks (a b : ℕ) (f : ℕ → ℝ) : ∑ n ∈ range a, ∑ r ∈ range b, f (b * n + r) = ∑ r ∈ range (b * a), f r := by
  induction a with
  | zero => simp
  | succ a ih => rw [Finset.sum_range_succ, ih, Nat.mul_succ, Finset.sum_range_add]

/-- The mean of a column over all rows, -/
def mean (S : ℕ → ℝ) (k : ℕ) : ℝ := S k / 65536
/-- its variance from the sums of the entries and of their squares, -/
def var (S Q : ℕ → ℝ) (k : ℕ) : ℝ := Q k / 65536 - S k / 65536 * (S k / 65536)
/-- the scale the normalisation multiplies by, -/
def scl (S Q g : ℕ → ℝ) (k : ℕ) : ℝ := g k * (Real.sqrt (var S Q k + eps))⁻¹
/-- and the shift it adds. -/
def sft (S Q g b : ℕ → ℝ) (k : ℕ) : ℝ := b k - S k / 65536 * scl S Q g k

/-- The sums of a matrix's columns over all rows, and of its squares'. -/
abbrev tots (Y : ℕ → ℕ → ℝ) : ℕ → ℝ := tot 65536 Y
abbrev sqs (Y : ℕ → ℕ → ℝ) : ℕ → ℝ := tot 65536 fun r k => Y r k * Y r k

/-- The variance as the mean of squared distances from the mean. -/
theorem var_eq (Y : ℕ → ℕ → ℝ) (k : ℕ) :
    var (tots Y) (sqs Y) k
      = (∑ r ∈ range 65536, (Y r k - tots Y k / 65536) * (Y r k - tots Y k / 65536)) / 65536 := by
  have h : ∀ m : ℝ, ∑ r ∈ range 65536, (Y r k - m) * (Y r k - m) = sqs Y k - 2 * m * tots Y k + 65536 * (m * m) := by
    intro m
    have : ∀ r, (Y r k - m) * (Y r k - m) = Y r k * Y r k - 2 * m * Y r k + m * m := fun r => by ring
    simp only [this, Finset.sum_add_distrib, Finset.sum_sub_distrib, Finset.sum_const, Finset.card_range, ← Finset.mul_sum, sqs, tots, tot]
    simp only [nsmul_eq_mul, Nat.cast_ofNat]
  rw [h]
  unfold var
  field_simp
  ring

theorem var_nonneg (Y : ℕ → ℕ → ℝ) (k : ℕ) : 0 ≤ var (tots Y) (sqs Y) k := by
  rw [var_eq]
  exact div_nonneg (Finset.sum_nonneg fun r _ => mul_self_nonneg _) (by norm_num)

theorem var_pos (Y : ℕ → ℕ → ℝ) (k : ℕ) : 0 < var (tots Y) (sqs Y) k + eps := add_pos_of_nonneg_of_pos (var_nonneg Y k) eps_pos

theorem scl_pos (Y : ℕ → ℕ → ℝ) (g : ℕ → ℝ) (k : ℕ) (hg : 0 < g k) : 0 < scl (tots Y) (sqs Y) g k :=
  mul_pos hg (inv_pos.2 (Real.sqrt_pos.2 (var_pos Y k)))

/-- A matrix whose column is moved by a constant has the same distances from its mean there, -/
theorem dist_shift {Y Z : ℕ → ℕ → ℝ} {k : ℕ} {e : ℝ} (h : ∀ r, Y r k = Z r k + e) (r : ℕ) :
    Y r k - tots Y k / 65536 = Z r k - tots Z k / 65536 := by
  have ht : tots Y k = tots Z k + 65536 * e := by
    unfold tots tot
    rw [Finset.sum_congr rfl fun r _ => h r, Finset.sum_add_distrib, Finset.sum_const, Finset.card_range, nsmul_eq_mul]
    norm_num
  rw [ht, h r]
  ring
/-- and the same scale. -/
theorem scl_shift {Y Z : ℕ → ℕ → ℝ} {k : ℕ} {e : ℝ} (h : ∀ r, Y r k = Z r k + e) (g : ℕ → ℝ) :
    scl (tots Y) (sqs Y) g k = scl (tots Z) (sqs Z) g k := by
  unfold scl
  rw [var_eq, var_eq, Finset.sum_congr rfl fun r _ => by rw [dist_shift h r]]

/-- A normalised and rectified entry: `y` scaled and shifted, then cut off below zero. -/
def act (Y : ℕ → ℕ → ℝ) (g b : ℕ → ℝ) (r k : ℕ) : ℝ :=
  max (Y r k * scl (tots Y) (sqs Y) g k + sft (tots Y) (sqs Y) g b k) 0

/-- The scaled and shifted entry is the normalisation as it is usually written. -/
theorem norm_eq (Y : ℕ → ℕ → ℝ) (g b : ℕ → ℝ) (r k : ℕ) :
    g k * (Y r k - tots Y k / 65536) * (1 / Real.sqrt (var (tots Y) (sqs Y) k + eps)) + b k
      = Y r k * scl (tots Y) (sqs Y) g k + sft (tots Y) (sqs Y) g b k := by
  unfold scl sft scl
  ring

/-- Scaling the weights of a layer scales its result. -/
theorem lin_scale (d : ℕ) (X W : ℕ → ℕ → ℝ) (s : ℕ → ℝ) (r k : ℕ) :
    lin d X (fun c k => W c k * s k) r k = lin d X W r k * s k := by
  unfold lin
  rw [Finset.sum_mul]
  exact Finset.sum_congr rfl fun c _ => by ring

/-- A positive scale moves out of a rectifier. -/
theorem max_scale (y s t : ℝ) (hs : 0 < s) : max (y + t / s) 0 * s = max (y * s + t) 0 := by
  rw [max_mul_of_nonneg _ _ hs.le, zero_mul, add_mul, div_mul_cancel₀ _ hs.ne']

/-- The same with an infinite shift allowed. -/
theorem max_scaleE (y s m : ℝ) (b : EReal) (hs : 0 < s) :
    max ((y : EReal) + Ideal.div (b - ((m * s : ℝ) : EReal)) (s : EReal)) 0 * (s : EReal)
      = max (((y - m) * s : ℝ) + b) 0 := by
  rw [Ideal.div_coe hs.ne']
  have h1 : (0 : ℝ) < 1 / s := one_div_pos.2 hs
  induction b with
  | bot =>
    rw [EReal.bot_sub, EReal.bot_mul_coe_of_pos h1, EReal.add_bot, EReal.add_bot, max_eq_right bot_le, zero_mul]
  | coe b =>
    rw [← EReal.coe_sub, ← EReal.coe_mul, ← EReal.coe_add, ← EReal.coe_add, ← EReal.coe_zero, ← coe_max, ← coe_max, ← EReal.coe_mul,
      max_mul_of_nonneg _ _ hs.le]
    congr 2
    · field_simp; ring
    · simp
  | top =>
    rw [EReal.top_sub_coe, EReal.top_mul_coe_of_pos h1, EReal.coe_add_top, EReal.coe_add_top, max_eq_left le_top,
      EReal.top_mul_coe_of_pos hs]

/-- A positive scale moves out of a column's largest entry. -/
theorem topE_scale (n : ℕ) (Y : ℕ → ℕ → EReal) (s : ℝ) (hs : 0 < s) (k : ℕ) :
    topE n Y k * (s : EReal) = topE n (fun r k => Y r k * (s : EReal)) k := by
  have hm : Monotone fun x : EReal => x * (s : EReal) := fun a b h => mul_le_mul_of_nonneg_right h (by exact_mod_cast hs.le)
  exact Finset.comp_sup_eq_sup_comp (fun x : EReal => x * (s : EReal)) (fun a b => hm.map_sup a b) (EReal.bot_mul_coe_of_pos hs)

end Cert.Net

end
-- ==== Proof.Net.Reads.lean ====
/-
  Arrays of two axes read as matrices: `At v f` says that the array `v` holds the extended reals `f`, `Is v f` that it holds the reals
  `f`. One lemma for each operation the programs use, so that what a composed term holds is read off its operations.
-/
module

public import proofs.«01_k».proof.Proof.Net.Maths
public import Idealize.ShloMosaic.Lib.Pipeline.Value
public import Idealize.ShloMosaic.Lib.ValueIdx
public import Idealize.ShloMosaic.Lib.ValueLayout
public import Idealize.ShloMosaic.Lib.MatmulPlain

@[expose] public section

noncomputable section

namespace Cert.Net

open Idealize.ShloMosaic Idealize.ShloMosaic.ValueIdx Finset

variable {a b c d : ℕ} {φ ψ : FTy}

/-- The array holds the extended reals `f`. -/
def At (v : (⟨2, ![a, b]⟩ : Shape).Idx → EReal) (f : ℕ → ℕ → EReal) : Prop := ∀ (i : Fin a) (j : Fin b), v (ix2 i j) = f i j
/-- The array holds the reals `f`. -/
def Is (v : (⟨2, ![a, b]⟩ : Shape).Idx → EReal) (f : ℕ → ℕ → ℝ) : Prop := ∀ (i : Fin a) (j : Fin b), v (ix2 i j) = ((f i j : ℝ) : EReal)

theorem Is.at {v : (⟨2, ![a, b]⟩ : Shape).Idx → EReal} {f : ℕ → ℕ → ℝ} (h : Is v f) : At v fun r k => (f r k : EReal) := h
theorem Is.of {v : (⟨2, ![a, b]⟩ : Shape).Idx → EReal} {f g : ℕ → ℕ → ℝ} (h : Is v f) (e : ∀ r < a, ∀ k < b, f r k = g r k) : Is v g :=
  fun i j => by rw [h i j, e i i.isLt j j.isLt]
theorem At.of {v : (⟨2, ![a, b]⟩ : Shape).Idx → EReal} {f g : ℕ → ℕ → EReal} (h : At v f) (e : ∀ r < a, ∀ k < b, f r k = g r k) : At v g :=
  fun i j => by rw [h i j, e i i.isLt j j.isLt]
theorem At.ext {v w : (⟨2, ![a, b]⟩ : Shape).Idx → EReal} {f : ℕ → ℕ → EReal} (h : At v f) (k : At w f) : v = w :=
  funext fun i => by
    have e := eq_ix2 i
    exact (congrArg v e).trans (((h (i 0) (i 1)).trans (k (i 0) (i 1)).symm).trans (congrArg w e).symm)

/-- What an array of two axes holds, as a matrix, -/
def mat (v : (⟨2, ![a, b]⟩ : Shape).Idx → EReal) (r k : ℕ) : EReal := if h : r < a ∧ k < b then v (ix2 ⟨r, h.1⟩ ⟨k, h.2⟩) else 0
theorem at_mat (v : (⟨2, ![a, b]⟩ : Shape).Idx → EReal) : At v (mat v) := fun i j => by
  unfold mat
  rw [dif_pos ⟨i.isLt, j.isLt⟩]
/-- and what an array of one axis holds. -/
def vec (v : (⟨1, ![a]⟩ : Shape).Idx → EReal) (k : ℕ) : EReal := if h : k < a then v (ix1 ⟨k, h⟩) else 0
theorem vec_apply (v : (⟨1, ![a]⟩ : Shape).Idx → EReal) (i : Fin a) : v (ix1 i) = vec v i := by
  unfold vec
  rw [dif_pos i.isLt]

/-- A finite extended real. -/
def Fin' (x : EReal) : Prop := ((x.toReal : ℝ) : EReal) = x

theorem is_mat (v : (⟨2, ![a, b]⟩ : Shape).Idx → EReal) (h : ∀ i, Fin' (v i)) : Is v fun r k => (mat v r k).toReal := fun i j => by
  have := h (ix2 i j)
  rw [at_mat v i j] at this ⊢
  exact this.symm

/-! ## Elementwise operations -/

theorem Is.addf {x y : FVec Ideal ⟨2, ![a, b]⟩ φ} {f g : ℕ → ℕ → ℝ} (hx : Is x f) (hy : Is y g) :
    Is (addf x y) fun r k => f r k + g r k := fun i j => by
  rw [EReal.coe_add, ← hx i j, ← hy i j]; rfl
theorem Is.subf {x y : FVec Ideal ⟨2, ![a, b]⟩ φ} {f g : ℕ → ℕ → ℝ} (hx : Is x f) (hy : Is y g) :
    Is (subf x y) fun r k => f r k - g r k := fun i j => by
  rw [EReal.coe_sub, ← hx i j, ← hy i j]; rfl
theorem Is.mulf {x y : FVec Ideal ⟨2, ![a, b]⟩ φ} {f g : ℕ → ℕ → ℝ} (hx : Is x f) (hy : Is y g) :
    Is (mulf x y) fun r k => f r k * g r k := fun i j => by
  rw [EReal.coe_mul, ← hx i j, ← hy i j]; rfl
theorem Is.maximumf {x y : FVec Ideal ⟨2, ![a, b]⟩ φ} {f g : ℕ → ℕ → ℝ} (hx : Is x f) (hy : Is y g) :
    Is (maximumf x y) fun r k => max (f r k) (g r k) := fun i j => by
  rw [coe_max, ← hx i j, ← hy i j]; rfl
theorem Is.divf {x y : FVec Ideal ⟨2, ![a, b]⟩ φ} {f g : ℕ → ℕ → ℝ} (hx : Is x f) (hy : Is y g) (h : ∀ r < a, ∀ k < b, g r k ≠ 0) :
    Is (divf x y) fun r k => f r k / g r k := fun i j => by
  show Ideal.div (x (ix2 i j)) (y (ix2 i j)) = _
  rw [hx i j, hy i j, Ideal.div_coe (h i i.isLt j j.isLt), ← EReal.coe_mul, mul_one_div]
theorem Is.rsqrt {x : FVec Ideal ⟨2, ![a, b]⟩ φ} {f : ℕ → ℕ → ℝ} (hx : Is x f) (h : ∀ r < a, ∀ k < b, 0 < f r k) :
    Is (rsqrt x) fun r k => (Real.sqrt (f r k))⁻¹ := fun i j => by
  show Ideal.rsqrt (x (ix2 i j)) = _
  have := h i i.isLt j j.isLt
  rw [hx i j, Ideal.rsqrt_coe, if_neg this.le.not_gt, if_neg this.ne']
theorem Is.truncf {x : FVec Ideal ⟨2, ![a, b]⟩ φ} {f : ℕ → ℕ → ℝ} (h : ψ.bits < φ.bits) (hx : Is x f) : Is (truncf ψ x h) f := hx
theorem Is.extf {x : FVec Ideal ⟨2, ![a, b]⟩ φ} {f : ℕ → ℕ → ℝ} (h : φ.bits < ψ.bits) (hx : Is x f) : Is (extf ψ x h) f := hx

theorem At.addf {x y : FVec Ideal ⟨2, ![a, b]⟩ φ} {f g : ℕ → ℕ → EReal} (hx : At x f) (hy : At y g) :
    At (addf x y) fun r k => f r k + g r k := fun i j => by
  show x (ix2 i j) + y (ix2 i j) = _
  rw [hx i j, hy i j]
theorem At.subf {x y : FVec Ideal ⟨2, ![a, b]⟩ φ} {f g : ℕ → ℕ → EReal} (hx : At x f) (hy : At y g) :
    At (subf x y) fun r k => f r k - g r k := fun i j => by
  show x (ix2 i j) - y (ix2 i j) = _
  rw [hx i j, hy i j]
theorem At.mulf {x y : FVec Ideal ⟨2, ![a, b]⟩ φ} {f g : ℕ → ℕ → EReal} (hx : At x f) (hy : At y g) :
    At (mulf x y) fun r k => f r k * g r k := fun i j => by
  show x (ix2 i j) * y (ix2 i j) = _
  rw [hx i j, hy i j]
theorem At.divf {x y : FVec Ideal ⟨2, ![a, b]⟩ φ} {f g : ℕ → ℕ → EReal} (hx : At x f) (hy : At y g) :
    At (divf x y) fun r k => Ideal.div (f r k) (g r k) := fun i j => by
  show Ideal.div (x (ix2 i j)) (y (ix2 i j)) = _
  rw [hx i j, hy i j]
theorem At.maximumf {x y : FVec Ideal ⟨2, ![a, b]⟩ φ} {f g : ℕ → ℕ → EReal} (hx : At x f) (hy : At y g) :
    At (maximumf x y) fun r k => max (f r k) (g r k) := fun i j => by
  show max (x (ix2 i j)) (y (ix2 i j)) = _
  rw [hx i j, hy i j]
theorem At.truncf {x : FVec Ideal ⟨2, ![a, b]⟩ φ} {f : ℕ → ℕ → EReal} (h : ψ.bits < φ.bits) (hx : At x f) : At (truncf ψ x h) f := hx
theorem At.extf {x : FVec Ideal ⟨2, ![a, b]⟩ φ} {f : ℕ → ℕ → EReal} (h : φ.bits < ψ.bits) (hx : At x f) : At (extf ψ x h) f := hx

/-! ## Constants -/

theorem is_zero (s : (⟨2, ![a, b]⟩ : Shape).Idx → EReal) (h : ∀ i, s i = Ideal.ofBits .f32 0x00000000#32) : Is s fun _ _ => 0 :=
  fun i j => (h _).trans (by rw [Ideal.ofBits_zero_f32]; rfl)
theorem is_splat_zero : Is (a := a) (b := b) (broadcast ⟨2, ![a, b]⟩ (Scalar.ofBits .f32 0x00000000#32 : Ideal .f32)) fun _ _ => 0 :=
  is_zero _ fun _ => rfl
theorem is_const_zero : Is (a := a) (b := b) (constant (F := Ideal) ⟨2, ![a, b]⟩ .f32 0x00000000#32) fun _ _ => 0 :=
  is_zero _ fun _ => rfl
theorem is_splat_rows : Is (a := a) (b := b) (broadcast ⟨2, ![a, b]⟩ (Scalar.ofBits .f32 0x47800000#32 : Ideal .f32)) fun _ _ => 65536 :=
  fun i j => ofBits_rows
theorem is_splat_eps : Is (a := a) (b := b) (broadcast ⟨2, ![a, b]⟩ (Scalar.ofBits .f32 0x3727C5AC#32 : Ideal .f32)) fun _ _ => eps :=
  fun i j => ofBits_eps

/-! ## Layout -/

theorem cast_self {s : Shape} (x : s.Idx → EReal) (h : s.ShapeCasts s) : shapeCast s x h = x := shapeCast_self x h
theorem Is.cast {x : (⟨2, ![a, b]⟩ : Shape).Idx → EReal} {f : ℕ → ℕ → ℝ} (h : (⟨2, ![a, b]⟩ : Shape).ShapeCasts ⟨2, ![a, b]⟩) (hx : Is x f) :
    Is (shapeCast ⟨2, ![a, b]⟩ x h) f := by rw [cast_self]; exact hx
theorem At.cast {x : (⟨2, ![a, b]⟩ : Shape).Idx → EReal} {f : ℕ → ℕ → EReal} (h : (⟨2, ![a, b]⟩ : Shape).ShapeCasts ⟨2, ![a, b]⟩) (hx : At x f) :
    At (shapeCast ⟨2, ![a, b]⟩ x h) f := by rw [cast_self]; exact hx
/-- A row repeated over the rows. -/
theorem At.rows {x : (⟨2, ![1, b]⟩ : Shape).Idx → EReal} {f : ℕ → ℕ → EReal} (h : (⟨2, ![1, b]⟩ : Shape).Broadcasts ⟨2, ![a, b]⟩) (hx : At x f) :
    At (broadcastTo ⟨2, ![a, b]⟩ x h) fun _ k => f 0 k := fun i j => by
  rw [broadcastTo_1b_ab_apply]; exact hx 0 j
theorem Is.rows {x : (⟨2, ![1, b]⟩ : Shape).Idx → EReal} {f : ℕ → ℕ → ℝ} (h : (⟨2, ![1, b]⟩ : Shape).Broadcasts ⟨2, ![a, b]⟩) (hx : Is x f) :
    Is (broadcastTo ⟨2, ![a, b]⟩ x h) fun _ k => f 0 k := At.rows h hx.at
/-- A row stood up as a column and repeated over the columns. -/
theorem Is.cols {x : (⟨2, ![1, a]⟩ : Shape).Idx → EReal} {f : ℕ → ℕ → ℝ} (h : (⟨2, ![1, a]⟩ : Shape).ShapeCasts ⟨2, ![a, 1]⟩)
    (h' : (⟨2, ![a, 1]⟩ : Shape).Broadcasts ⟨2, ![a, b]⟩) (hx : Is x f) :
    Is (broadcastTo ⟨2, ![a, b]⟩ (shapeCast ⟨2, ![a, 1]⟩ x h) h') fun r _ => f 0 r := fun i j => by
  rw [broadcastTo_apply _ h' (ix2 i j) (ix2 i (0 : Fin 1)) fun ax => by
    match ax with
    | ⟨0, _⟩ =>
      show i.val = if a = 1 then 0 else i.val
      split
      · have := i.isLt; omega
      · rfl
    | ⟨1, _⟩ => rfl,
    shapeCast_apply x h (ix2 i (0 : Fin 1)) (ix2 (0 : Fin 1) i) (by
      rw [Shape.rowMajor_val_two, Shape.rowMajor_val_two]
      show 0 * a + i.val = i.val * 1 + 0
      omega)]
  exact hx 0 i
/-- The rows from row `o` on. -/
theorem At.slice {x : (⟨2, ![a, b]⟩ : Shape).Idx → EReal} {f : ℕ → ℕ → EReal} (o : ℕ) (h : (⟨2, ![a, b]⟩ : Shape).Slices ![o, 0] ⟨2, ![c, b]⟩)
    (hx : At x f) : At (extractStridedSlice ⟨2, ![c, b]⟩ ![o, 0] x h) fun r k => f (o + r) k := fun i j => by
  have hi : o + i.val < a := by
    have h0 : o + c ≤ a := h.2 0
    have := i.isLt; omega
  rw [extractStridedSlice_apply ![o, 0] x h (ix2 i j) (ix2 ⟨o + i.val, hi⟩ j) fun ax => by
    match ax with
    | ⟨0, _⟩ => rfl
    | ⟨1, _⟩ => exact (Nat.zero_add _).symm]
  exact hx _ j
theorem Is.slice {x : (⟨2, ![a, b]⟩ : Shape).Idx → EReal} {f : ℕ → ℕ → ℝ} (o : ℕ) (h : (⟨2, ![a, b]⟩ : Shape).Slices ![o, 0] ⟨2, ![c, b]⟩)
    (hx : Is x f) : Is (extractStridedSlice ⟨2, ![c, b]⟩ ![o, 0] x h) fun r k => f (o + r) k := At.slice o h hx.at
/-- An array of one axis as a row. -/
theorem at_row (x : (⟨1, ![a]⟩ : Shape).Idx → EReal) (h : (⟨1, ![a]⟩ : Shape).ShapeCasts ⟨2, ![1, a]⟩) :
    At (shapeCast ⟨2, ![1, a]⟩ x h) fun _ k => vec x k := fun i j => by
  rw [shapeCast_a_1a_apply]; exact vec_apply x j

/-! ## Products -/

theorem At.dot {x : FVec Ideal ⟨2, ![a, d]⟩ φ} {y : FVec Ideal ⟨2, ![d, b]⟩ ψ} {f g : ℕ → ℕ → EReal} (D : DotDims ⟨2, ![a, d]⟩ ⟨2, ![d, b]⟩ ⟨2, ![a, b]⟩)
    (hD : D = DotDims.plain a d b) (p : Option ContractPrecision) (hx : At x f) (hy : At y g) :
    At (matmul (F := Ideal) D p x y (constant ⟨2, ![a, b]⟩ .f32 0x00000000#32)) (linE d f g) := fun i j => by
  subst hD
  refine (Ideal.matmul_plain_apply p x y _ i j).trans ?_
  rw [show (constant ⟨2, ![a, b]⟩ .f32 0x00000000#32 : FVec Ideal ⟨2, ![a, b]⟩ .f32) (ix2 i j) = 0 from Ideal.ofBits_zero_f32, zero_add]
  unfold linE
  rw [Finset.sum_range]
  exact Finset.sum_congr rfl fun k _ => by rw [hx, hy]
theorem linE_coe (f g : ℕ → ℕ → ℝ) (r k : ℕ) : linE d (fun r k => (f r k : EReal)) (fun r k => (g r k : EReal)) r k = ((lin d f g r k : ℝ) : EReal) := by
  unfold linE lin
  rw [coe_sum]
  exact Finset.sum_congr rfl fun k _ => (EReal.coe_mul _ _).symm
theorem Is.dot {x : FVec Ideal ⟨2, ![a, d]⟩ φ} {y : FVec Ideal ⟨2, ![d, b]⟩ ψ} {f g : ℕ → ℕ → ℝ} (D : DotDims ⟨2, ![a, d]⟩ ⟨2, ![d, b]⟩ ⟨2, ![a, b]⟩)
    (hD : D = DotDims.plain a d b) (p : Option ContractPrecision) (hx : Is x f) (hy : Is y g) :
    Is (matmul (F := Ideal) D p x y (constant ⟨2, ![a, b]⟩ .f32 0x00000000#32)) (lin d f g) := fun i j => by
  rw [At.dot D hD p hx.at hy.at i j, linE_coe]

/-! ## Sums and maxima of columns, as rows -/

theorem lift_col (h : (⟨2, ![a, b]⟩ : Shape).Reduces [0] ⟨1, ![b]⟩) (j : Fin b) (k : Fin a) : h.lift (ix1 j) k = ix2 k j :=
  funext fun ax => Fin.ext (by
    match ax with
    | ⟨0, _⟩ => rfl
    | ⟨1, _⟩ => rfl)
theorem Is.colsum {x : FVec Ideal ⟨2, ![a, b]⟩ .f32} {f : ℕ → ℕ → ℝ} (h : (⟨2, ![a, b]⟩ : Shape).Reduces [0] ⟨1, ![b]⟩) (hφ : FKind.Formats .f32)
    (hacc : (0x00000000#32 : BitVec 32) = FKind.add.neutral .f32 hφ) (h' : (⟨1, ![b]⟩ : Shape).ShapeCasts ⟨2, ![1, b]⟩) (hx : Is x f) :
    Is (shapeCast ⟨2, ![1, b]⟩ (multiReduction .add [0] ⟨1, ![b]⟩ x 0x00000000#32 h hφ hacc) h') fun _ k => tot a f k := fun i j => by
  rw [shapeCast_a_1a_apply, Ideal.multiReduction_add_single]
  unfold tot
  rw [coe_sum, Finset.sum_range]
  exact Finset.sum_congr rfl fun k _ => (congrArg x (lift_col h j k)).trans (hx k j)
theorem fold_sup {ι : Type} (s : Finset ι) (f : ι → EReal) : s.fold max ⊥ f = s.sup f := rfl
theorem sup_range (f : ℕ → EReal) : (Finset.univ : Finset (Fin a)).sup (fun k => f k) = (range a).sup f := by
  apply le_antisymm
  · exact Finset.sup_le fun k _ => Finset.le_sup (f := f) (Finset.mem_range.2 k.isLt)
  · exact Finset.sup_le fun k hk => Finset.le_sup (f := fun k : Fin a => f k) (Finset.mem_univ ⟨k, Finset.mem_range.1 hk⟩)
theorem At.colmax {x : FVec Ideal ⟨2, ![a, b]⟩ φ} {f : ℕ → ℕ → EReal} (w : BitVec φ.bits) (hw : Ideal.ofBits φ w = ⊥)
    (h : (⟨2, ![a, b]⟩ : Shape).Reduces [0] ⟨1, ![b]⟩) (hφ : FKind.Formats φ) (hacc : w = FKind.maximumf.neutral φ hφ)
    (h' : (⟨1, ![b]⟩ : Shape).ShapeCasts ⟨2, ![1, b]⟩) (hx : At x f) :
    At (shapeCast ⟨2, ![1, b]⟩ (multiReduction .maximumf [0] ⟨1, ![b]⟩ x w h hφ hacc) h') fun _ k => topE a f k := fun i j => by
  rw [shapeCast_a_1a_apply, Ideal.multiReduction_maximumf_single]
  refine (congrArg (fun z => Finset.fold max z _ _) (show FloatOps.ofBits (F := Ideal) φ w = (⊥ : EReal) from hw)).trans ?_
  refine ((fold_sup _ _).trans (Finset.sup_congr rfl fun k _ => ?_)).trans (sup_range (a := a) fun r => f r j)
  exact (congrArg x (lift_col h j k)).trans (hx k j)
theorem Is.colmax {x : FVec Ideal ⟨2, ![a, b]⟩ φ} {f : ℕ → ℕ → ℝ} (ha : 0 < a) (w : BitVec φ.bits) (hw : Ideal.ofBits φ w = ⊥)
    (h : (⟨2, ![a, b]⟩ : Shape).Reduces [0] ⟨1, ![b]⟩) (hφ : FKind.Formats φ) (hacc : w = FKind.maximumf.neutral φ hφ)
    (h' : (⟨1, ![b]⟩ : Shape).ShapeCasts ⟨2, ![1, b]⟩) (hx : Is x f) :
    Is (shapeCast ⟨2, ![1, b]⟩ (multiReduction .maximumf [0] ⟨1, ![b]⟩ x w h hφ hacc) h') fun _ k => top a f k := fun i j => by
  rw [At.colmax w hw h hφ hacc h' hx.at i j, coe_top ha]

end Cert.Net

end
-- ==== Proof.Net.Network.lean ====
/-
  The whole network in mathematics, as functions of a row number and a column number. Rows of the first three layers are numbered
  through all polylines; row `r` belongs to polyline `r / 512`.
-/
module

public import proofs.«01_k».proof.Proof.Net.Reads

@[expose] public section

noncomputable section

namespace Cert.Net

open Idealize.ShloMosaic Idealize.ShloMosaic.ValueIdx Finset

/-- A polyline through the second layer: its rows by the upper half of the weights, its largest entries by the lower. -/
def segf (H WA WB : ℕ → ℕ → ℝ) (r k : ℕ) : ℝ := lin 256 H WA r k + lin 256 (fun _ j => top 512 H j) WB 0 k

/-- Two dense layers with a rectifier between them, -/
def encE (E W1 : ℕ → ℕ → EReal) (b1 : ℕ → EReal) (W2 : ℕ → ℕ → EReal) (b2 : ℕ → EReal) (p k : ℕ) : EReal :=
  linE 256 (fun p k => max (linE 256 E W1 p k + b1 k) 0) W2 p k + b2 k
/-- and the two of the last stage. -/
def outE (E W1 : ℕ → ℕ → EReal) (b1 : ℕ → EReal) (W2 : ℕ → ℕ → EReal) (b2 : ℕ → EReal) (p k : ℕ) : EReal :=
  linE 1024 (fun p k => max (linE 2048 E W1 p k + b1 k) 0) W2 p k + b2 k

theorem linE_congr {d : ℕ} {X X' W : ℕ → ℕ → EReal} {r k : ℕ} (h : ∀ c < d, X r c = X' r c) : linE d X W r k = linE d X' W r k :=
  Finset.sum_congr rfl fun c hc => by rw [h c (Finset.mem_range.1 hc)]
theorem encE_congr {E E' W1 W2 : ℕ → ℕ → EReal} {b1 b2 : ℕ → EReal} {p k : ℕ} (h : ∀ c < 256, E p c = E' p c) :
    encE E W1 b1 W2 b2 p k = encE E' W1 b1 W2 b2 p k := by
  unfold encE
  refine congrArg (· + _) (linE_congr fun c _ => ?_)
  beta_reduce
  rw [linE_congr h]
theorem outE_congr {E E' W1 W2 : ℕ → ℕ → EReal} {b1 b2 : ℕ → EReal} {p k : ℕ} (h : ∀ c < 2048, E p c = E' p c) :
    outE E W1 b1 W2 b2 p k = outE E' W1 b1 W2 b2 p k := by
  unfold outE
  refine congrArg (· + _) (linE_congr fun c _ => ?_)
  beta_reduce
  rw [linE_congr h]

/-- What the network reads: everything before the third shift is real. -/
structure Inputs where
  X : ℕ → ℕ → ℝ
  W0 : ℕ → ℕ → ℝ
  g0 : ℕ → ℝ
  b0 : ℕ → ℝ
  WA : ℕ → ℕ → ℝ
  WB : ℕ → ℕ → ℝ
  g1 : ℕ → ℝ
  b1 : ℕ → ℝ
  W2 : ℕ → ℕ → ℝ
  g2 : ℕ → ℝ
  b2 : ℕ → EReal
  Wo1 : ℕ → ℕ → EReal
  bo1 : ℕ → EReal
  Wo2 : ℕ → ℕ → EReal
  bo2 : ℕ → EReal
  Wm1 : ℕ → ℕ → EReal
  bm1 : ℕ → EReal
  Wm2 : ℕ → ℕ → EReal
  bm2 : ℕ → EReal

namespace Inputs
variable (I : Inputs)

/-- The first layer before its normalisation, -/
def Y0 : ℕ → ℕ → ℝ := lin 64 I.X I.W0
/-- and after it. -/
def H0 : ℕ → ℕ → ℝ := act I.Y0 I.g0 I.b0
/-- The second layer before its normalisation, -/
def Y1 (r k : ℕ) : ℝ := segf (fun n j => I.H0 (512 * (r / 512) + n) j) I.WA I.WB (r % 512) k
/-- and after it. -/
def H1 : ℕ → ℕ → ℝ := act I.Y1 I.g1 I.b1
/-- The third layer before its normalisation, -/
def Y2 : ℕ → ℕ → ℝ := lin 256 I.H1 I.W2
/-- and after it. -/
def H2 (r k : ℕ) : EReal :=
  max (((I.Y2 r k - tots I.Y2 k / 65536) * scl (tots I.Y2) (sqs I.Y2) I.g2 k : ℝ) + I.b2 k) 0
/-- The second layer's entries that depend on the row: a column whose scale is zero is constant, and is left out, -/
def H1K (r k : ℕ) : ℝ := if I.g1 k = 0 then 0 else I.H1 r k
/-- and the third layer of those alone. -/
def Y2K : ℕ → ℕ → ℝ := lin 256 I.H1K I.W2

/-- The columns left out add a constant to each column of the third layer, -/
theorem Y2_shift (r k : ℕ) : I.Y2 r k = I.Y2K r k + ∑ c ∈ range 256, (if I.g1 c = 0 then max (I.b1 c) 0 else 0) * I.W2 c k := by
  unfold Y2 Y2K lin
  rw [← Finset.sum_add_distrib]
  refine Finset.sum_congr rfl fun c _ => ?_
  unfold H1K
  by_cases hc : I.g1 c = 0
  · rw [if_pos hc, if_pos hc]
    unfold H1 act sft scl
    rw [hc]
    simp
  · rw [if_neg hc, if_neg hc]
    ring
/-- which the normalisation takes away. -/
theorem H2_eq (r k : ℕ) :
    I.H2 r k = max (((I.Y2K r k - tots I.Y2K k / 65536) * scl (tots I.Y2K) (sqs I.Y2K) I.g2 k : ℝ) + I.b2 k) 0 := by
  unfold H2
  rw [dist_shift (fun r => I.Y2_shift r k), scl_shift (fun r => I.Y2_shift r k)]

/-- The largest entries of each polyline, -/
def pool (p k : ℕ) : EReal := topE 512 (fun n k => I.H2 (512 * p + n) k) k
/-- encoded, eight polylines side by side, -/
def enc (r k : ℕ) : EReal := encE I.pool I.Wo1 I.bo1 I.Wo2 I.bo2 (8 * r + k / 256) (k % 256)
/-- and the last stage. -/
def out : ℕ → ℕ → EReal := outE I.enc I.Wm1 I.bm1 I.Wm2 I.bm2

end Inputs

/-- The programs' nineteen arguments. -/
structure Args where
  x0 : (⟨4, ![16, 8, 512, 64]⟩ : Shape).Idx → EReal
  x1 : (⟨3, ![16, 8, 512]⟩ : Shape).Idx → BitVec 1
  x2 : (⟨2, ![64, 256]⟩ : Shape).Idx → EReal
  x3 : (⟨1, ![256]⟩ : Shape).Idx → EReal
  x4 : (⟨1, ![256]⟩ : Shape).Idx → EReal
  x5 : (⟨2, ![512, 256]⟩ : Shape).Idx → EReal
  x6 : (⟨1, ![256]⟩ : Shape).Idx → EReal
  x7 : (⟨1, ![256]⟩ : Shape).Idx → EReal
  x8 : (⟨2, ![256, 256]⟩ : Shape).Idx → EReal
  x9 : (⟨1, ![256]⟩ : Shape).Idx → EReal
  x10 : (⟨1, ![256]⟩ : Shape).Idx → EReal
  x11 : (⟨2, ![256, 256]⟩ : Shape).Idx → EReal
  x12 : (⟨1, ![256]⟩ : Shape).Idx → EReal
  x13 : (⟨2, ![256, 256]⟩ : Shape).Idx → EReal
  x14 : (⟨1, ![256]⟩ : Shape).Idx → EReal
  x15 : (⟨2, ![2048, 1024]⟩ : Shape).Idx → EReal
  x16 : (⟨1, ![1024]⟩ : Shape).Idx → EReal
  x17 : (⟨2, ![1024, 512]⟩ : Shape).Idx → EReal
  x18 : (⟨1, ![512]⟩ : Shape).Idx → EReal

namespace Args
variable (A : Args)

/-- The network's reading of the arguments. -/
def net : Inputs where
  X r k := (A.x0 (ix4 ⟨r / 4096 % 16, Nat.mod_lt _ (by decide)⟩ ⟨r / 512 % 8, Nat.mod_lt _ (by decide)⟩ ⟨r % 512, Nat.mod_lt _ (by decide)⟩
    ⟨k % 64, Nat.mod_lt _ (by decide)⟩)).toReal
  W0 r k := (mat A.x2 r k).toReal
  g0 k := (vec A.x3 k).toReal
  b0 k := (vec A.x4 k).toReal
  WA r k := (mat A.x5 r k).toReal
  WB r k := (mat A.x5 (256 + r) k).toReal
  g1 k := (vec A.x6 k).toReal
  b1 k := (vec A.x7 k).toReal
  W2 r k := (mat A.x8 r k).toReal
  g2 k := (vec A.x9 k).toReal
  b2 := vec A.x10
  Wo1 := mat A.x11
  bo1 := vec A.x12
  Wo2 := mat A.x13
  bo2 := vec A.x14
  Wm1 := mat A.x15
  bm1 := vec A.x16
  Wm2 := mat A.x17
  bm2 := vec A.x18

/-- Arguments the claim speaks of: every point present, the rows and the three normalised layers finite, no second scale
    negative, the third scales positive. -/
structure Fine : Prop where
  mask : ∀ i, A.x1 i = 1#1
  f0 : ∀ i, Fin' (A.x0 i)
  f2 : ∀ i, Fin' (A.x2 i)
  f3 : ∀ i, Fin' (A.x3 i)
  f4 : ∀ i, Fin' (A.x4 i)
  f5 : ∀ i, Fin' (A.x5 i)
  f6 : ∀ i, Fin' (A.x6 i)
  f7 : ∀ i, Fin' (A.x7 i)
  f8 : ∀ i, Fin' (A.x8 i)
  f9 : ∀ i, Fin' (A.x9 i)
  p6 : ∀ i, 0 ≤ A.x6 i
  p9 : ∀ i, 0 < A.x9 i

end Args

/-- A finite vector's entries. -/
theorem vec_real {a : ℕ} (v : (⟨1, ![a]⟩ : Shape).Idx → EReal) (h : ∀ i, Fin' (v i)) (j : Fin a) : v (ix1 j) = (((vec v j).toReal : ℝ) : EReal) := by
  rw [← vec_apply]
  exact (h _).symm
/-- A finite vector without negative entries has none read as a real. -/
theorem vec_nonneg {a : ℕ} (v : (⟨1, ![a]⟩ : Shape).Idx → EReal) (h : ∀ i, Fin' (v i)) (p : ∀ i, 0 ≤ v i) (k : ℕ) (hk : k < a) :
    0 ≤ (vec v k).toReal := by
  have := p (ix1 ⟨k, hk⟩)
  rw [vec_real v h ⟨k, hk⟩] at this
  exact_mod_cast this
/-- A positive finite vector's entries are positive. -/
theorem vec_pos {a : ℕ} (v : (⟨1, ![a]⟩ : Shape).Idx → EReal) (h : ∀ i, Fin' (v i)) (p : ∀ i, 0 < v i) (k : ℕ) (hk : k < a) :
    0 < (vec v k).toReal := by
  have := p (ix1 ⟨k, hk⟩)
  rw [vec_real v h ⟨k, hk⟩] at this
  exact_mod_cast this

end Cert.Net

end
-- ==== Proof.Net.Pre.lean ====
/-
  What the precondition says of the arguments.
-/
module

public import proofs.«01_k».proof.Pre_trained_inputs
public import proofs.«01_k».proof.Proof.Net.Network
public import Idealize.ShloMosaic.Lib.ReduceAll

@[expose] public section

set_option maxRecDepth 16384

noncomputable section

namespace Cert.Pre_trained_inputs.Own

open Cert.Pre_trained_inputs Cert.Net
open Idealize.ShloMosaic Idealize.ShloMosaic.ValueIdx

/-- The shape relations the predicate's operations take. -/
theorem facts : Facts where
  reducesTo_S16x8x512_S_d0_1_2 := by decide
  h_S_ := by decide
  bcast_S_S16x8x512x64 := by decide
  reducesTo_S16x8x512x64_S_d0_1_2_3 := by decide
  bcast_S_S64x256 := by decide
  reducesTo_S64x256_S_d0_1 := by decide
  bcast_S_S256 := by decide
  reducesTo_S256_S_d0 := by decide
  bcast_S_S512x256 := by decide
  reducesTo_S512x256_S_d0_1 := by decide
  bcast_S_S256x256 := by decide
  reducesTo_S256x256_S_d0_1 := by decide

instance : Subsingleton S_.Idx := ⟨fun i j => funext fun a => a.elim0⟩

/-- Both of two flags that are set together are set. -/
theorem both {x y : IVec S_ 1} {j : S_.Idx} (h : andi x y j = 1#1) : x j = 1#1 ∧ y j = 1#1 := by
  have h : x j &&& y j = 1#1 := h
  generalize x j = a at h ⊢
  generalize y j = b at h ⊢
  revert a b
  decide

/-- A value whose magnitude is less than infinity is a real. -/
theorem fin_of_lt {x : EReal} (h : max x (-x) < ⊤) : Fin' x := by
  induction x using EReal.rec with
  | bot => simp at h
  | coe r => rfl
  | top => simp at h

variable {s : Shape} {axes : List (Fin s.rank)}

/-- The test of finiteness, read at an index, -/
theorem fin_of_all {x : FVec Ideal s .f32} (hb : S_.BroadcastsInDim s (![] : Fin 0 → Fin s.rank)) {v : IVec S_ 1} {hr : s.ReducesTo axes S_} {hu : 0 < S_.numel} {j : S_.Idx}
    (h : Host.reduce IntOp.andi (cmpf .olt (Host.absf x) (broadcastInDim s ![] hb (constant (F := Ideal) S_ .f32 0x7F800000#32))) v hr hu j = 1#1)
    (i : s.Idx) : Fin' (x i) := by
  have e := Host.reduce_andi_all _ v hr hu j h i
  have e : Ideal.cmp .olt (max (x i) (-(x i))) (Ideal.ofBits .f32 0x7F800000#32) = 1#1 := e
  rw [ofBits_inf] at e
  refine fin_of_lt ?_
  by_contra hn
  unfold Ideal.cmp at e
  rw [decide_eq_false hn] at e
  exact absurd (show BitVec.ofBool false = 1#1 from e) (by decide)
/-- the test of being positive, -/
theorem pos_of_all {x : FVec Ideal s .f32} (hb : S_.BroadcastsInDim s (![] : Fin 0 → Fin s.rank)) {v : IVec S_ 1} {hr : s.ReducesTo axes S_} {hu : 0 < S_.numel} {j : S_.Idx}
    (h : Host.reduce IntOp.andi (cmpf .ogt x (broadcastInDim s ![] hb (constant (F := Ideal) S_ .f32 0x00000000#32))) v hr hu j = 1#1)
    (i : s.Idx) : 0 < x i := by
  have e := Host.reduce_andi_all _ v hr hu j h i
  have e : Ideal.cmp .ogt (x i) (Ideal.ofBits .f32 0x00000000#32) = 1#1 := e
  rw [Ideal.ofBits_zero_f32] at e
  by_contra hn
  unfold Ideal.cmp at e
  rw [decide_eq_false hn] at e
  exact absurd (show BitVec.ofBool false = 1#1 from e) (by decide)

/-- and the test of not being negative. -/
theorem nonneg_of_all {x : FVec Ideal s .f32} (hb : S_.BroadcastsInDim s (![] : Fin 0 → Fin s.rank)) {v : IVec S_ 1} {hr : s.ReducesTo axes S_} {hu : 0 < S_.numel} {j : S_.Idx}
    (h : Host.reduce IntOp.andi (cmpf .oge x (broadcastInDim s ![] hb (constant (F := Ideal) S_ .f32 0x00000000#32))) v hr hu j = 1#1)
    (i : s.Idx) : 0 ≤ x i := by
  have e := Host.reduce_andi_all _ v hr hu j h i
  have e : Ideal.cmp .oge (x i) (Ideal.ofBits .f32 0x00000000#32) = 1#1 := e
  rw [Ideal.ofBits_zero_f32] at e
  by_contra hn
  unfold Ideal.cmp at e
  rw [decide_eq_false hn] at e
  exact absurd (show BitVec.ofBool false = 1#1 from e) (by decide)

/-- Arguments the precondition holds of are fine. -/
theorem fine (A : Args)
    (h : @fn facts Ideal _ A.x0 A.x1 A.x2 A.x3 A.x4 A.x5 A.x6 A.x7 A.x8 A.x9 A.x10 A.x11 A.x12 A.x13 A.x14 A.x15 A.x16 A.x17 A.x18 = fun _ => 1#1) :
    A.Fine := by
  have h := congrFun h (fun a => Fin.elim0 a : S_.Idx)
  unfold fn fn_part1 fn_part2 fn_part3 at h
  obtain ⟨h, q9⟩ := both h
  obtain ⟨h, q6⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h0⟩ := both h
  exact ⟨fun i => Host.reduce_andi_all _ _ _ _ _ h i, fin_of_all _ h0, fin_of_all _ h2, fin_of_all _ h3, fin_of_all _ h4, fin_of_all _ h5,
    fin_of_all _ h6, fin_of_all _ h7, fin_of_all _ h8, fin_of_all _ h9, nonneg_of_all _ q6, pos_of_all _ q9⟩

end Cert.Pre_trained_inputs.Own

end
-- ==== Proof.Ideal.Host.lean ====
/-
  What the host's operations around the two launches leave in the buffers.
-/
module

public import proofs.«01_k».proof.Proof.Ideal.Run
public import Idealize.ShloMosaic.Lib.StableHlo.RunRead

@[expose] public section

set_option maxRecDepth 16384

noncomputable section

namespace Cert.KernelIdeal.Own

open Cert.KernelIdeal Cert.KernelIdeal.Gen
open Idealize.ShloMosaic Idealize.ShloMosaic.TcCoe Idealize.ShloMosaic.StableHlo

variable (V : Valuation τ sig (Elt Ideal))
theorem hostOps0_v0 : after hostOps0 V (Proc.devRef .tc main_v0) = truncf (F := Ideal) (φ := .f32) .bf16 (V (Proc.devRef .tc main_arg2)) bitsLt_bf16_f32 := by
  after_results_simp <;> rfl
theorem hostOps0_v1 : after hostOps0 V (Proc.devRef .tc main_v1) = truncf (F := Ideal) (φ := .f32) .bf16 (V (Proc.devRef .tc main_arg8)) bitsLt_bf16_f32 := by
  after_results_simp <;> rfl
theorem hostOps0_v3 : after hostOps0 V (Proc.devRef .tc main_v3) = truncf (F := Ideal) (φ := .f32) .bf16 (extractStridedSlice S256x256 ![0, 0] (V (Proc.devRef .tc main_arg5)) slices_S512x256_S256x256_0_0) bitsLt_bf16_f32 := by
  after_results_simp <;> rfl
theorem hostOps0_v5 : after hostOps0 V (Proc.devRef .tc main_v5) = truncf (F := Ideal) (φ := .f32) .bf16 (extractStridedSlice S256x256 ![256, 0] (V (Proc.devRef .tc main_arg5)) slices_S512x256_S256x256_256_0) bitsLt_bf16_f32 := by
  after_results_simp <;> rfl
theorem hostOps0_v6 : after hostOps0 V (Proc.devRef .tc main_v6) = shapeCast S1x256 (V (Proc.devRef .tc main_arg3)) shapeCasts_S256_S1x256 := by
  after_results_simp <;> rfl
theorem hostOps0_v7 : after hostOps0 V (Proc.devRef .tc main_v7) = shapeCast S1x256 (V (Proc.devRef .tc main_arg4)) shapeCasts_S256_S1x256 := by
  after_results_simp <;> rfl
theorem hostOps1_v9 : after hostOps1 V (Proc.devRef .tc main_v9) = shapeCast S1x256 (V (Proc.devRef .tc main_arg6)) shapeCasts_S256_S1x256 := by
  after_results_simp <;> rfl
theorem hostOps1_v10 : after hostOps1 V (Proc.devRef .tc main_v10) = shapeCast S1x256 (V (Proc.devRef .tc main_arg7)) shapeCasts_S256_S1x256 := by
  after_results_simp <;> rfl
theorem hostOps1_v11 : after hostOps1 V (Proc.devRef .tc main_v11) = shapeCast S1x256 (V (Proc.devRef .tc main_arg9)) shapeCasts_S256_S1x256 := by
  after_results_simp <;> rfl
theorem hostOps1_v12 : after hostOps1 V (Proc.devRef .tc main_v12) = shapeCast S1x256 (V (Proc.devRef .tc main_arg10)) shapeCasts_S256_S1x256 := by
  after_results_simp <;> rfl
theorem hostOps1_v13 : after hostOps1 V (Proc.devRef .tc main_v13) = shapeCast S1x256 (V (Proc.devRef .tc main_arg12)) shapeCasts_S256_S1x256 := by
  after_results_simp <;> rfl
theorem hostOps1_v14 : after hostOps1 V (Proc.devRef .tc main_v14) = shapeCast S1x256 (V (Proc.devRef .tc main_arg14)) shapeCasts_S256_S1x256 := by
  after_results_simp <;> rfl
theorem hostOps1_v15 : after hostOps1 V (Proc.devRef .tc main_v15) = truncf (F := Ideal) (φ := .f32) .bf16 (V (Proc.devRef .tc main_arg15)) bitsLt_bf16_f32 := by
  after_results_simp <;> rfl
theorem hostOps1_v16 : after hostOps1 V (Proc.devRef .tc main_v16) = shapeCast S1x1024 (V (Proc.devRef .tc main_arg16)) shapeCasts_S1024_S1x1024 := by
  after_results_simp <;> rfl
theorem hostOps1_v17 : after hostOps1 V (Proc.devRef .tc main_v17) = truncf (F := Ideal) (φ := .f32) .bf16 (V (Proc.devRef .tc main_arg17)) bitsLt_bf16_f32 := by
  after_results_simp <;> rfl
theorem hostOps1_v18 : after hostOps1 V (Proc.devRef .tc main_v18) = shapeCast S1x512 (V (Proc.devRef .tc main_arg18)) shapeCasts_S512_S1x512 := by
  after_results_simp <;> rfl
theorem hostOps2_v20 : after hostOps2 V (Proc.devRef .tc main_v20) = shapeCast S16x8x64 (V (Proc.devRef .tc main_v19)) shapeCasts_S16x512_S16x8x64 := by
  after_results_simp <;> rfl

end Cert.KernelIdeal.Own

end
-- ==== Proof.Ideal.Blocks.lean ====
/-
  What the launches' windows hold, read off their arrays.
-/
module

public import proofs.«01_k».proof.Proof.Ideal.Region0
public import proofs.«01_k».proof.Proof.Ideal.Region1
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b)) (c : Dev nD)

/-! ## Windows over a whole array -/

theorem zero0_1 (t : Fin cfg0.N) (a : Fin 2) : win0_1.index t a = 0 := by
  match a with
  | ⟨0, _⟩ => rfl
  | ⟨1, _⟩ => rfl
theorem gam0_eq (n : ℕ) : gam0 V c n = V c main_v6 := funext fun y => congrArg (V c main_v6)
  (funext fun a => Fin.ext (Pipeline.Window.rect_emb_val_of_index_zero win0_1 (pt0 n) a (zero0_1 _ a) y))
theorem zero0_2 (t : Fin cfg0.N) (a : Fin 2) : win0_2.index t a = 0 := by
  match a with
  | ⟨0, _⟩ => rfl
  | ⟨1, _⟩ => rfl
theorem bet0_eq (n : ℕ) : bet0 V c n = V c main_v7 := funext fun y => congrArg (V c main_v7)
  (funext fun a => Fin.ext (Pipeline.Window.rect_emb_val_of_index_zero win0_2 (pt0 n) a (zero0_2 _ a) y))
theorem zero0_3 (t : Fin cfg0.N) (a : Fin 2) : win0_3.index t a = 0 := by
  match a with
  | ⟨0, _⟩ => rfl
  | ⟨1, _⟩ => rfl
theorem wgt0_eq (n : ℕ) : wgt0 V c n = V c main_v0 := funext fun y => congrArg (V c main_v0)
  (funext fun a => Fin.ext (Pipeline.Window.rect_emb_val_of_index_zero win0_3 (pt0 n) a (zero0_3 _ a) y))
theorem zero0_4 (t : Fin cfg0.N) (a : Fin 2) : win0_4.index t a = 0 := by
  match a with
  | ⟨0, _⟩ => rfl
  | ⟨1, _⟩ => rfl
theorem wgtA_eq (n : ℕ) : wgtA V c n = V c main_v3 := funext fun y => congrArg (V c main_v3)
  (funext fun a => Fin.ext (Pipeline.Window.rect_emb_val_of_index_zero win0_4 (pt0 n) a (zero0_4 _ a) y))
theorem zero0_5 (t : Fin cfg0.N) (a : Fin 2) : win0_5.index t a = 0 := by
  match a with
  | ⟨0, _⟩ => rfl
  | ⟨1, _⟩ => rfl
theorem wgtB_eq (n : ℕ) : wgtB V c n = V c main_v5 := funext fun y => congrArg (V c main_v5)
  (funext fun a => Fin.ext (Pipeline.Window.rect_emb_val_of_index_zero win0_5 (pt0 n) a (zero0_5 _ a) y))
theorem zero1_1 (t : Fin cfg1.N) (a : Fin 2) : win1_1.index t a = 0 := by
  match a with
  | ⟨0, _⟩ => rfl
  | ⟨1, _⟩ => rfl
theorem tot1At_eq (n : ℕ) : tot1At V c n = V c main_v8_1 := funext fun y => congrArg (V c main_v8_1)
  (funext fun a => Fin.ext (Pipeline.Window.rect_emb_val_of_index_zero win1_1 (pt1 n) a (zero1_1 _ a) y))
theorem zero1_2 (t : Fin cfg1.N) (a : Fin 2) : win1_2.index t a = 0 := by
  match a with
  | ⟨0, _⟩ => rfl
  | ⟨1, _⟩ => rfl
theorem gam1At_eq (n : ℕ) : gam1At V c n = V c main_v9 := funext fun y => congrArg (V c main_v9)
  (funext fun a => Fin.ext (Pipeline.Window.rect_emb_val_of_index_zero win1_2 (pt1 n) a (zero1_2 _ a) y))
theorem zero1_3 (t : Fin cfg1.N) (a : Fin 2) : win1_3.index t a = 0 := by
  match a with
  | ⟨0, _⟩ => rfl
  | ⟨1, _⟩ => rfl
theorem bet1At_eq (n : ℕ) : bet1At V c n = V c main_v10 := funext fun y => congrArg (V c main_v10)
  (funext fun a => Fin.ext (Pipeline.Window.rect_emb_val_of_index_zero win1_3 (pt1 n) a (zero1_3 _ a) y))
theorem zero1_4 (t : Fin cfg1.N) (a : Fin 2) : win1_4.index t a = 0 := by
  match a with
  | ⟨0, _⟩ => rfl
  | ⟨1, _⟩ => rfl
theorem gam2At_eq (n : ℕ) : gam2At V c n = V c main_v11 := funext fun y => congrArg (V c main_v11)
  (funext fun a => Fin.ext (Pipeline.Window.rect_emb_val_of_index_zero win1_4 (pt1 n) a (zero1_4 _ a) y))
theorem zero1_5 (t : Fin cfg1.N) (a : Fin 2) : win1_5.index t a = 0 := by
  match a with
  | ⟨0, _⟩ => rfl
  | ⟨1, _⟩ => rfl
theorem bet2At_eq (n : ℕ) : bet2At V c n = V c main_v12 := funext fun y => congrArg (V c main_v12)
  (funext fun a => Fin.ext (Pipeline.Window.rect_emb_val_of_index_zero win1_5 (pt1 n) a (zero1_5 _ a) y))
theorem zero1_6 (t : Fin cfg1.N) (a : Fin 2) : win1_6.index t a = 0 := by
  match a with
  | ⟨0, _⟩ => rfl
  | ⟨1, _⟩ => rfl
theorem wgt2At_eq (n : ℕ) : wgt2At V c n = V c main_v1 := funext fun y => congrArg (V c main_v1)
  (funext fun a => Fin.ext (Pipeline.Window.rect_emb_val_of_index_zero win1_6 (pt1 n) a (zero1_6 _ a) y))
theorem zero1_7 (t : Fin cfg1.N) (a : Fin 2) : win1_7.index t a = 0 := by
  match a with
  | ⟨0, _⟩ => rfl
  | ⟨1, _⟩ => rfl
theorem wo1At_eq (n : ℕ) : wo1At V c n = V c main_arg11 := funext fun y => congrArg (V c main_arg11)
  (funext fun a => Fin.ext (Pipeline.Window.rect_emb_val_of_index_zero win1_7 (pt1 n) a (zero1_7 _ a) y))
theorem zero1_8 (t : Fin cfg1.N) (a : Fin 2) : win1_8.index t a = 0 := by
  match a with
  | ⟨0, _⟩ => rfl
  | ⟨1, _⟩ => rfl
theorem bo1At_eq (n : ℕ) : bo1At V c n = V c main_v13 := funext fun y => congrArg (V c main_v13)
  (funext fun a => Fin.ext (Pipeline.Window.rect_emb_val_of_index_zero win1_8 (pt1 n) a (zero1_8 _ a) y))
theorem zero1_9 (t : Fin cfg1.N) (a : Fin 2) : win1_9.index t a = 0 := by
  match a with
  | ⟨0, _⟩ => rfl
  | ⟨1, _⟩ => rfl
theorem wo2At_eq (n : ℕ) : wo2At V c n = V c main_arg13 := funext fun y => congrArg (V c main_arg13)
  (funext fun a => Fin.ext (Pipeline.Window.rect_emb_val_of_index_zero win1_9 (pt1 n) a (zero1_9 _ a) y))
theorem zero1_10 (t : Fin cfg1.N) (a : Fin 2) : win1_10.index t a = 0 := by
  match a with
  | ⟨0, _⟩ => rfl
  | ⟨1, _⟩ => rfl
theorem bo2At_eq (n : ℕ) : bo2At V c n = V c main_v14 := funext fun y => congrArg (V c main_v14)
  (funext fun a => Fin.ext (Pipeline.Window.rect_emb_val_of_index_zero win1_10 (pt1 n) a (zero1_10 _ a) y))
theorem zero1_11 (t : Fin cfg1.N) (a : Fin 2) : win1_11.index t a = 0 := by
  match a with
  | ⟨0, _⟩ => rfl
  | ⟨1, _⟩ => rfl
theorem wm1At_eq (n : ℕ) : wm1At V c n = V c main_v15 := funext fun y => congrArg (V c main_v15)
  (funext fun a => Fin.ext (Pipeline.Window.rect_emb_val_of_index_zero win1_11 (pt1 n) a (zero1_11 _ a) y))
theorem zero1_12 (t : Fin cfg1.N) (a : Fin 2) : win1_12.index t a = 0 := by
  match a with
  | ⟨0, _⟩ => rfl
  | ⟨1, _⟩ => rfl
theorem bm1At_eq (n : ℕ) : bm1At V c n = V c main_v16 := funext fun y => congrArg (V c main_v16)
  (funext fun a => Fin.ext (Pipeline.Window.rect_emb_val_of_index_zero win1_12 (pt1 n) a (zero1_12 _ a) y))
theorem zero1_13 (t : Fin cfg1.N) (a : Fin 2) : win1_13.index t a = 0 := by
  match a with
  | ⟨0, _⟩ => rfl
  | ⟨1, _⟩ => rfl
theorem wm2At_eq (n : ℕ) : wm2At V c n = V c main_v17 := funext fun y => congrArg (V c main_v17)
  (funext fun a => Fin.ext (Pipeline.Window.rect_emb_val_of_index_zero win1_13 (pt1 n) a (zero1_13 _ a) y))
theorem zero1_14 (t : Fin cfg1.N) (a : Fin 2) : win1_14.index t a = 0 := by
  match a with
  | ⟨0, _⟩ => rfl
  | ⟨1, _⟩ => rfl
theorem bm2At_eq (n : ℕ) : bm2At V c n = V c main_v18 := funext fun y => congrArg (V c main_v18)
  (funext fun a => Fin.ext (Pipeline.Window.rect_emb_val_of_index_zero win1_14 (pt1 n) a (zero1_14 _ a) y))

/-! ## Windows over blocks of rows -/

theorem index0_0 : ∀ t : Fin cfg0.N, win0_0.index t 0 = t.val % 8 := by decide +kernel
theorem index0_6 : ∀ t : Fin cfg0.N, win0_6.index t 0 = t.val - 8 := by decide +kernel
theorem index1_0 : ∀ t : Fin cfg1.N, t.val < 16 → win1_0.index t 0 = t.val := by decide +kernel

theorem rows0_apply (n : ℕ) (p : Fin 2) (q : Fin 8) (r : Fin 512) (k : Fin 64) :
    rows0 V c n (ix4 p q r k) = V c main_arg0 (ix4 (⟨2 * (n % 8) + p.val, by omega⟩ : Fin 16) q r k) :=
  congrArg (V c main_arg0) (funext fun a => Fin.ext (by
    match a with
    | ⟨0, _⟩ =>
      refine (Pipeline.Window.rect_emb_val win0_0 (pt0 n) (ix4 p q r k) 0).trans ?_
      rw [index0_0]
      show n % 16 % 8 * 2 + p.val = 2 * (n % 8) + p.val
      omega
    | ⟨1, _⟩ => exact Pipeline.Window.rect_emb_val_of_index_zero win0_0 (pt0 n) 1 rfl (ix4 p q r k)
    | ⟨2, _⟩ => exact Pipeline.Window.rect_emb_val_of_index_zero win0_0 (pt0 n) 2 rfl (ix4 p q r k)
    | ⟨3, _⟩ => exact Pipeline.Window.rect_emb_val_of_index_zero win0_0 (pt0 n) 3 rfl (ix4 p q r k)))

theorem rows1At_apply (n : ℕ) (hn : n < 16) (r : Fin 4096) (k : Fin 256) :
    rows1At V c n (ix2 r k) = V c main_v8_0 (ix2 (⟨4096 * n + r.val, by omega⟩ : Fin 65536) k) :=
  congrArg (V c main_v8_0) (funext fun a => Fin.ext (by
    match a with
    | ⟨0, _⟩ =>
      refine (Pipeline.Window.rect_emb_val win1_0 (pt1 n) (ix2 r k) 0).trans ?_
      have e : (pt1 n).val = n := Nat.mod_eq_of_lt (by omega)
      rw [index1_0 (pt1 n) (by omega), e]
      show n * 4096 + r.val = 4096 * n + r.val
      omega
    | ⟨1, _⟩ => exact Pipeline.Window.rect_emb_val_of_index_zero win1_0 (pt1 n) 1 rfl (ix2 r k)))

/-! ## The arrays the launches write -/

theorem out0_6 : ∀ t : Fin cfg0.N, 8 ≤ t.val → (cfg0.win 6).flush t = true := by decide +kernel
theorem out0_7 : ∀ t : Fin cfg0.N, t.val = 15 → (cfg0.win 7).flush t = true := by decide +kernel
theorem out1_15 : ∀ t : Fin cfg1.N, t.val = 31 → (cfg1.win 15).flush t = true := by decide +kernel

/-- The second layer's rows. -/
def lay1 : S65536x256.Idx → EReal := fun i =>
  block1 (hid0 V c (8 + (i 0).val / 8192)) (wgtA V c (8 + (i 0).val / 8192)) (wgtB V c (8 + (i 0).val / 8192))
    (ix2 (⟨(i 0).val % 8192, Nat.mod_lt _ (by norm_num)⟩ : Fin 8192) (⟨(i 1).val, (i 1).isLt⟩ : Fin 256))

theorem emb0_6 (t : Fin cfg0.N) (y : S8192x256.Idx) : (((cfg0.win 6).blk t).view.emb y 0).val = (t.val - 8) * 8192 + (y 0).val := by
  refine (Pipeline.Window.rect_emb_val win0_6 t y 0).trans ?_
  rw [index0_6]
  rfl
theorem emb0_6' (t : Fin cfg0.N) (y : S8192x256.Idx) : (((cfg0.win 6).blk t).view.emb y 1).val = (y 1).val :=
  Pipeline.Window.rect_emb_val_of_index_zero win0_6 t 1 rfl y

theorem flushed0_6 (t : Fin cfg0.N) (ht : (cfg0.win 6).flush t = true) :
    (dat0 V c).flushed 6 t = ((cfg0.win 6).blk t).view.read (Elt Ideal) (lay1 V c) := by
  have h8 : 8 ≤ t.val := by
    by_contra h
    rw [stay0_6 t (by omega)] at ht
    exact absurd ht (by decide)
  show (cfg0.win 6).cut (grid0.coords t) ((dat0 V c).after 6 t) = _
  rw [after0_6]
  refine funext fun (y : S8192x256.Idx) => ?_
  have hy : (y 0).val < 8192 := (y 0).isLt
  show block1 (hid0 V c t.val) (wgtA V c t.val) (wgtB V c t.val) y = lay1 V c (((cfg0.win 6).blk t).view.emb y)
  unfold lay1
  have e0 := emb0_6 t y
  have e1 := emb0_6' t y
  rw [show 8 + (((cfg0.win 6).blk t).view.emb y 0).val / 8192 = t.val by omega]
  refine congrArg (block1 _ _ _) (funext fun a => Fin.ext ?_)
  match a with
  | ⟨0, _⟩ =>
    show (y 0).val = (((cfg0.win 6).blk t).view.emb y 0).val % 8192
    omega
  | ⟨1, _⟩ => exact e1.symm

theorem arr0_6 : (dat0 V c).arrAt 6 cfg0.N = lay1 V c :=
  (dat0 V c).arrAt_eq_of_cover 6 (lay1 V c) (flushed0_6 V c) fun (i : S65536x256.Idx) => by
    have h0 : (i 0).val < 65536 := (i 0).isLt
    have hN : cfg0.N = 16 := N_0
    let t : Fin cfg0.N := ⟨8 + (i 0).val / 8192, by omega⟩
    let y : S8192x256.Idx := ix2 (⟨(i 0).val % 8192, Nat.mod_lt _ (by norm_num)⟩ : Fin 8192) (⟨(i 1).val, (i 1).isLt⟩ : Fin 256)
    refine ⟨t, out0_6 t (Nat.le_add_right _ _), ?_⟩
    have e : ((cfg0.win 6).blk t).view.emb y = i := funext fun a => Fin.ext (by
      match a with
      | ⟨0, _⟩ =>
        refine (emb0_6 t y).trans ?_
        show (8 + (i 0).val / 8192 - 8) * 8192 + (i 0).val % 8192 = (i 0).val
        omega
      | ⟨1, _⟩ => exact emb0_6' t y)
    exact e ▸ ((cfg0.win 6).blk t).view.emb_mem_set y

theorem zero0_7 (t : Fin cfg0.N) (a : Fin 2) : win0_7.index t a = 0 := by
  match a with
  | ⟨0, _⟩ => rfl
  | ⟨1, _⟩ => rfl
theorem emb0_7 (t : Fin cfg0.N) (y : S2x256.Idx) : ((cfg0.win 7).blk t).view.emb y = y :=
  funext fun a => Fin.ext (Pipeline.Window.rect_emb_val_of_index_zero win0_7 t a (zero0_7 _ a) y)
/-- The second layer's two sums. -/
theorem arr0_7 : (dat0 V c).arrAt 7 cfg0.N = rows2 (sum1 V c 8) (sq1 V c 8) :=
  (dat0 V c).arrAt_eq_of_cover 7 (rows2 (sum1 V c 8) (sq1 V c 8)) (fun t ht => by
    have h15 : t.val = 15 := by
      by_contra h
      have := lt0 t
      rw [stay0_7 t (by omega)] at ht
      exact absurd ht (by decide)
    show (cfg0.win 7).cut (grid0.coords t) ((dat0 V c).after 7 t) = _
    rw [after0_7, h15]
    exact funext fun (y : S2x256.Idx) => congrArg (rows2 (sum1 V c 8) (sq1 V c 8)) (emb0_7 t y).symm) fun (i : S2x256.Idx) => by
    have hN : cfg0.N = 16 := N_0
    let t : Fin cfg0.N := ⟨15, by omega⟩
    exact ⟨t, out0_7 t rfl, emb0_7 t i ▸ ((cfg0.win 7).blk t).view.emb_mem_set i⟩

theorem zero1_15 (t : Fin cfg1.N) (a : Fin 2) : win1_15.index t a = 0 := by
  match a with
  | ⟨0, _⟩ => rfl
  | ⟨1, _⟩ => rfl
theorem emb1_15 (t : Fin cfg1.N) (y : S16x512.Idx) : ((cfg1.win 15).blk t).view.emb y = y :=
  funext fun a => Fin.ext (Pipeline.Window.rect_emb_val_of_index_zero win1_15 t a (zero1_15 _ a) y)
/-- The result. -/
theorem arr1_15 : (dat1 V c).arrAt 15 cfg1.N = last2 V c 31 :=
  (dat1 V c).arrAt_eq_of_cover 15 (last2 V c 31) (fun t ht => by
    have h31 : t.val = 31 := by
      by_contra h
      have := lt1 t
      rw [stay1_15 t (by omega)] at ht
      exact absurd ht (by decide)
    show (cfg1.win 15).cut (grid1.coords t) ((dat1 V c).after 15 t) = _
    rw [after1_15, h31]
    exact funext fun (y : S16x512.Idx) => congrArg (last2 V c 31) (emb1_15 t y).symm) fun (i : S16x512.Idx) => by
    have hN : cfg1.N = 32 := N_1
    let t : Fin cfg1.N := ⟨31, by omega⟩
    exact ⟨t, out1_15 t rfl, emb1_15 t i ▸ ((cfg1.win 15).blk t).view.emb_mem_set i⟩

end Cert.KernelIdeal.Own

end
-- ==== Proof.Ideal.Pays.lean ====
/-
  What the two bodies compute, in mathematics: each stored value of the launches as a matrix, from what its operands hold. The
  running sums are column sums, the folded weights give the normalised layers, a segment's maximum goes through the lower half of the
  second weights.
-/
module

public import proofs.«01_k».proof.Proof.Net.Reads
public import proofs.«01_k».proof.Proof.Net.Network
public import proofs.«01_k».proof.Proof.Ideal.Block2

@[expose] public section

set_option maxRecDepth 16384

noncomputable section

namespace Cert.KernelIdeal.Own

open Cert.KernelIdeal.Gen Cert.Net
open Idealize.ShloMosaic Idealize.ShloMosaic.ValueIdx

/-! ## The first launch -/

theorem zero_row : Is (a := 1) (b := 256) (k0_pay1 (F := Ideal)) fun _ _ => 0 := Is.cast _ is_splat_zero

/-- The first layer before its normalisation. -/
theorem pay5_is {x : Vec Ideal S2x8x512x64 .f32} {w : Vec Ideal S64x256 .bf16} {X W : ℕ → ℕ → ℝ}
    (hx : Is (a := 8192) (b := 64) (shapeCast S8192x64 x shapeCasts_S2x8x512x64_S8192x64) X) (hw : Is (a := 64) (b := 256) w W) :
    Is (a := 8192) (b := 256) (k0_pay5 x w) (lin 64 X W) := by
  unfold k0_pay5
  exact Is.dot _ rfl _ (Is.truncf _ hx) (Is.cast _ hw)

theorem pay6_is {x : Vec Ideal S2x8x512x64 .f32} {w : Vec Ideal S64x256 .bf16} {s : Vec Ideal S1x256 .f32} {X W : ℕ → ℕ → ℝ} {S : ℕ → ℝ}
    (hx : Is (a := 8192) (b := 64) (shapeCast S8192x64 x shapeCasts_S2x8x512x64_S8192x64) X) (hw : Is (a := 64) (b := 256) w W)
    (hs : Is (a := 1) (b := 256) s fun _ k => S k) :
    Is (a := 1) (b := 256) (k0_pay6 x w s) fun _ k => S k + tot 8192 (lin 64 X W) k := by
  unfold k0_pay6
  exact Is.cast _ (Is.addf hs (Is.colsum _ _ _ _ (pay5_is hx hw)))

theorem pay7_is {x : Vec Ideal S2x8x512x64 .f32} {w : Vec Ideal S64x256 .bf16} {s : Vec Ideal S1x256 .f32} {X W : ℕ → ℕ → ℝ} {S : ℕ → ℝ}
    (hx : Is (a := 8192) (b := 64) (shapeCast S8192x64 x shapeCasts_S2x8x512x64_S8192x64) X) (hw : Is (a := 64) (b := 256) w W)
    (hs : Is (a := 1) (b := 256) s fun _ k => S k) :
    Is (a := 1) (b := 256) (k0_pay7 x w s) fun _ k => S k + tot 8192 (fun r k => lin 64 X W r k * lin 64 X W r k) k := by
  unfold k0_pay7
  exact Is.cast _ (Is.addf hs (Is.colsum _ _ _ _ (Is.mulf (pay5_is hx hw) (pay5_is hx hw))))

section Scale
variable {s q g b : FVec Ideal S1x256 .f32} {S Q G B : ℕ → ℝ}

/-- The row of means, -/
theorem mean_is (hs : Is (a := 1) (b := 256) s fun _ k => S k) :
    Is (a := 1) (b := 256) (divf s (broadcast S1x256 (Scalar.ofBits .f32 0x47800000#32))) fun _ k => S k / 65536 :=
  Is.divf hs is_splat_rows fun _ _ _ _ => by norm_num

/-- the row of scales, from the sums and the sums of squares, -/
theorem scale_is (hs : Is (a := 1) (b := 256) s fun _ k => S k) (hq : Is (a := 1) (b := 256) q fun _ k => Q k)
    (hg : Is (a := 1) (b := 256) g fun _ k => G k) (hv : ∀ k < 256, 0 < var S Q k + eps) :
    Is (a := 1) (b := 256)
      (mulf g (rsqrt (addf (subf (divf q (broadcast S1x256 (Scalar.ofBits .f32 0x47800000#32)))
          (mulf (divf s (broadcast S1x256 (Scalar.ofBits .f32 0x47800000#32))) (divf s (broadcast S1x256 (Scalar.ofBits .f32 0x47800000#32)))))
        (broadcast S1x256 (Scalar.ofBits .f32 0x3727C5AC#32)))))
      fun _ k => scl S Q G k :=
  Is.mulf hg (Is.rsqrt (Is.addf (Is.subf (mean_is hq) (Is.mulf (mean_is hs) (mean_is hs))) is_splat_eps) fun _ _ k hk => hv k hk)

end Scale

/-- The first layer, normalised and rectified. -/
theorem pay10_is {s q g b : Vec Ideal S1x256 .f32} {x : Vec Ideal S2x8x512x64 .f32} {w : Vec Ideal S64x256 .bf16} {X W : ℕ → ℕ → ℝ}
    {S Q G B : ℕ → ℝ} (hs : Is (a := 1) (b := 256) s fun _ k => S k) (hq : Is (a := 1) (b := 256) q fun _ k => Q k)
    (hg : Is (a := 1) (b := 256) g fun _ k => G k) (hb : Is (a := 1) (b := 256) b fun _ k => B k) (hv : ∀ k < 256, 0 < var S Q k + eps)
    (hx : Is (a := 8192) (b := 64) (shapeCast S8192x64 x shapeCasts_S2x8x512x64_S8192x64) X) (hw : Is (a := 64) (b := 256) w W) :
    Is (a := 8192) (b := 256) (k0_pay10 s q g b w x) fun r k => max (lin 64 X W r k * scl S Q G k + sft S Q G B k) 0 := by
  unfold k0_pay10
  have hsc := scale_is hs hq (Is.cast shapeCasts_S1x256_S1x256 hg) hv
  refine Is.of (Is.truncf _ (Is.maximumf (Is.addf (Is.dot _ rfl _ (Is.truncf _ hx) (Is.truncf _ (Is.mulf (Is.extf _ (Is.cast _ hw))
    (Is.rows _ hsc)))) (Is.rows _ (Is.subf (Is.cast _ hb) (Is.mulf (mean_is hs) hsc)))) is_splat_zero)) fun r _ k _ => ?_
  rw [lin_scale]
  rfl

theorem pay20_is {h : FVec Ideal S512x256 .bf16} {wa wb : Vec Ideal S256x256 .bf16} {H WA WB : ℕ → ℕ → ℝ}
    (hh : Is (a := 512) (b := 256) h H) (ha : Is (a := 256) (b := 256) wa WA) (hb : Is (a := 256) (b := 256) wb WB) :
    Is (a := 512) (b := 256) (k0_pay20 h wa wb) (segf H WA WB) := by
  unfold k0_pay20
  exact Is.addf (Is.dot _ rfl _ hh (Is.cast _ ha))
    (Is.rows _ (Is.dot _ rfl _ (Is.colmax (by norm_num) _ ofBits_ninf16 _ _ _ _ hh) (Is.cast _ hb)))

section Blocks
variable {h : FVec Ideal S8192x256 .bf16} {wa wb : Vec Ideal S256x256 .bf16} {H WA WB : ℕ → ℕ → ℝ}

theorem seg_is (hh : Is (a := 8192) (b := 256) h H) (ha : Is (a := 256) (b := 256) wa WA) (hb : Is (a := 256) (b := 256) wb WB) (n : ℕ) :
    Is (a := 512) (b := 256) (seg h wa wb n) (segf (fun r k => H (512 * (n % 16) + r) k) WA WB) := by
  unfold seg
  exact pay20_is (Is.slice (512 * (n % 16)) _ hh) ha hb

theorem segSum_is (hh : Is (a := 8192) (b := 256) h H) (ha : Is (a := 256) (b := 256) wa WA) (hb : Is (a := 256) (b := 256) wb WB) (n : ℕ) :
    Is (a := 1) (b := 256) (segSum h wa wb n) fun _ k => ∑ i ∈ Finset.range n, tot 512 (segf (fun r k => H (512 * (i % 16) + r) k) WA WB) k := by
  induction n with
  | zero => exact is_const_zero
  | succ n ih =>
    refine Is.of (Is.addf ih (Is.colsum _ _ _ _ (seg_is hh ha hb n))) fun r _ k _ => ?_
    rw [Finset.sum_range_succ]

theorem segSq_is (hh : Is (a := 8192) (b := 256) h H) (ha : Is (a := 256) (b := 256) wa WA) (hb : Is (a := 256) (b := 256) wb WB) (n : ℕ) :
    Is (a := 1) (b := 256) (segSq h wa wb n) fun _ k => ∑ i ∈ Finset.range n, tot 512 (fun r k =>
      segf (fun r k => H (512 * (i % 16) + r) k) WA WB r k * segf (fun r k => H (512 * (i % 16) + r) k) WA WB r k) k := by
  induction n with
  | zero => exact is_const_zero
  | succ n ih =>
    refine Is.of (Is.addf ih (Is.colsum _ _ _ _ (Is.mulf (seg_is hh ha hb n) (seg_is hh ha hb n)))) fun r _ k _ => ?_
    rw [Finset.sum_range_succ]

end Blocks

/-! ## The second launch -/

/-- The third layer before its normalisation. A column whose scale is zero counts for nothing: its entries, infinite ones among them,
    meet weights that are zero. -/
theorem mid_is {s q g b : Vec Ideal S1x256 .f32} {y : Vec Ideal S4096x256 .f32} {w : Vec Ideal S256x256 .bf16} {Y W : ℕ → ℕ → ℝ}
    {S Q G B : ℕ → ℝ} (hs : Is (a := 1) (b := 256) s fun _ k => S k) (hq : Is (a := 1) (b := 256) q fun _ k => Q k)
    (hg : Is (a := 1) (b := 256) g fun _ k => G k) (hb : Is (a := 1) (b := 256) b fun _ k => B k) (hv : ∀ k < 256, 0 < var S Q k + eps)
    (hp : ∀ k < 256, G k ≠ 0 → 0 < scl S Q G k)
    (hy : Is (a := 4096) (b := 256) y Y) (hw : Is (a := 256) (b := 256) w W) :
    Is (a := 4096) (b := 256) (k1_pay8 s q g b w y)
      (lin 256 (fun r k => if G k = 0 then 0 else max (Y r k * scl S Q G k + sft S Q G B k) 0) W) := by
  unfold k1_pay8
  have hs' := Is.cast shapeCasts_S1x256_S1x256 hs
  have hq' := Is.cast shapeCasts_S1x256_S1x256 hq
  have hsc := scale_is hs' hq' (Is.cast shapeCasts_S1x256_S1x256 hg) hv
  have hx := At.truncf (ψ := .bf16) bitsLt_bf16_f32 (At.maximumf (At.addf (Is.cast shapeCasts_S4096x256_S4096x256 hy).at (At.rows broadcasts_S1x256_S4096x256
    (At.divf (Is.subf (Is.cast shapeCasts_S1x256_S1x256 hb) (Is.mulf (mean_is hs') hsc)).at hsc.at))) is_splat_zero.at)
  intro i j
  refine (At.dot _ rfl _ hx (Is.truncf _ (Is.mulf (Is.extf _ (Is.cast _ hw)) (Is.cols shapeCasts_S1x256_S256x1 _ hsc))).at i j).trans ?_
  unfold linE lin
  rw [coe_sum]
  refine Finset.sum_congr rfl fun c hc => ?_
  beta_reduce
  by_cases h0 : G c = 0
  · have e : scl S Q G c = 0 := by
      unfold scl
      rw [h0, zero_mul]
    simp only [if_pos h0, e, mul_zero, zero_mul, EReal.coe_zero]
  · have hc' := hp c (Finset.mem_range.1 hc) h0
    rw [if_neg h0, Ideal.div_coe hc'.ne', ← EReal.coe_mul, ← EReal.coe_add, ← coe_max, ← EReal.coe_mul,
      ← max_scale _ _ _ hc', mul_one_div]
    unfold sft
    congr 1
    ring

theorem pay9_is {s q g b : Vec Ideal S1x256 .f32} {w : Vec Ideal S256x256 .bf16} {y : Vec Ideal S4096x256 .f32} {t : Vec Ideal S1x256 .f32}
    {Y : ℕ → ℕ → ℝ} {T : ℕ → ℝ} (hm : Is (a := 4096) (b := 256) (k1_pay8 s q g b w y) Y) (ht : Is (a := 1) (b := 256) t fun _ k => T k) :
    Is (a := 1) (b := 256) (k1_pay3 (k1_pay9 s q g b w y t)) fun _ k => T k + tot 4096 Y k := by
  unfold k1_pay3 k1_pay9
  exact Is.cast _ (Is.addf ht (Is.colsum _ _ _ _ hm))

theorem pay4_is {y : FVec Ideal S4096x256 .f32} {t : Vec Ideal S1x256 .f32} {Y : ℕ → ℕ → ℝ} {T : ℕ → ℝ}
    (hm : Is (a := 4096) (b := 256) y Y) (ht : Is (a := 1) (b := 256) t fun _ k => T k) :
    Is (a := 1) (b := 256) (k1_pay4 y t) fun _ k => T k + tot 4096 (fun r k => Y r k * Y r k) k := by
  unfold k1_pay4
  exact Is.cast _ (Is.addf ht (Is.colsum _ _ _ _ (Is.mulf hm hm)))

theorem keep_is {y : FVec Ideal S4096x256 .f32} {Y : ℕ → ℕ → ℝ} (hm : Is (a := 4096) (b := 256) y Y) :
    Is (a := 4096) (b := 256) (k1_pay5 y) Y := by
  unfold k1_pay5
  exact Is.cast _ (Is.truncf _ hm)

section Tops
variable {s q g b : Vec Ideal S1x256 .f32} {y : Vec Ideal S4096x256 .bf16} {Y : ℕ → ℕ → ℝ} {S Q G : ℕ → ℝ} {B : ℕ → EReal}

/-- A kept row with its shift, rectified; its scale comes later. -/
def half (Y : ℕ → ℕ → ℝ) (S Q G : ℕ → ℝ) (B : ℕ → EReal) (r k : ℕ) : EReal :=
  max ((Y r k : EReal) + Ideal.div (B k - ((S k / 65536 * scl S Q G k : ℝ) : EReal)) (scl S Q G k : EReal)) 0

theorem half_at (hs : Is (a := 1) (b := 256) s fun _ k => S k) (hq : Is (a := 1) (b := 256) q fun _ k => Q k)
    (hg : Is (a := 1) (b := 256) g fun _ k => G k) (hb : At (a := 1) (b := 256) b fun _ k => B k) (hv : ∀ k < 256, 0 < var S Q k + eps)
    (hy : Is (a := 4096) (b := 256) y Y) : At (a := 4096) (b := 256) (k1_pay10 s q g b y) (half Y S Q G B) := by
  unfold k1_pay10
  have hsc := scale_is hs hq (Is.cast shapeCasts_S1x256_S1x256 hg) hv
  exact At.maximumf (At.addf (Is.extf _ hy).at (At.rows _ (At.divf (At.subf (At.cast _ hb) (Is.mulf (mean_is hs) hsc).at) hsc.at)))
    is_splat_zero.at

/-- Eight rows one under the other. -/
theorem eight_at {x0 x1 x2 x3 x4 x5 x6 x7 : S1x256.Idx → EReal} {T : ℕ → ℕ → EReal}
    (h0 : At (a := 1) (b := 256) x0 fun _ k => T 0 k) (h1 : At (a := 1) (b := 256) x1 fun _ k => T 1 k)
    (h2 : At (a := 1) (b := 256) x2 fun _ k => T 2 k) (h3 : At (a := 1) (b := 256) x3 fun _ k => T 3 k)
    (h4 : At (a := 1) (b := 256) x4 fun _ k => T 4 k) (h5 : At (a := 1) (b := 256) x5 fun _ k => T 5 k)
    (h6 : At (a := 1) (b := 256) x6 fun _ k => T 6 k) (h7 : At (a := 1) (b := 256) x7 fun _ k => T 7 k)
    (hc : Shape.Concatenates [S1x256, S1x256, S1x256, S1x256, S1x256, S1x256, S1x256, S1x256] S8x256 0) :
    At (a := 8) (b := 256) (concatenate S8x256 0 [⟨S1x256, x0⟩, ⟨S1x256, x1⟩, ⟨S1x256, x2⟩, ⟨S1x256, x3⟩, ⟨S1x256, x4⟩, ⟨S1x256, x5⟩, ⟨S1x256, x6⟩,
      ⟨S1x256, x7⟩] hc) T := fun i j => by
  have piece : ∀ (n : ℕ) (x : S1x256.Idx → EReal) (h : At (a := 1) (b := 256) x fun _ k => T n k),
      PieceAt (t := S8x256) 0 (ix2 i j) (T i j) S1x256 x n := by
    intro n x h hn hr y h0 hb
    have hn' : i.val = n := hn
    have hy : y = ix2 (0 : Fin 1) j := funext fun ax => Fin.ext (by
      match ax with
      | ⟨0, _⟩ => exact h0
      | ⟨1, _⟩ => exact hb (1 : Fin 2) (by decide))
    rw [hy, h 0 j, hn']
  exact concatenate_unit_eq (t := S8x256) 0 [⟨S1x256, x0⟩, ⟨S1x256, x1⟩, ⟨S1x256, x2⟩, ⟨S1x256, x3⟩, ⟨S1x256, x4⟩, ⟨S1x256, x5⟩, ⟨S1x256, x6⟩,
    ⟨S1x256, x7⟩] hc (ix2 i j) (T i j) rfl
    (concatAt_cons _ _ _ _ (piece 0 x0 h0) (concatAt_cons _ _ _ _ (piece 1 x1 h1) (concatAt_cons _ _ _ _ (piece 2 x2 h2)
    (concatAt_cons _ _ _ _ (piece 3 x3 h3) (concatAt_cons _ _ _ _ (piece 4 x4 h4) (concatAt_cons _ _ _ _ (piece 5 x5 h5)
    (concatAt_cons _ _ _ _ (piece 6 x6 h6) (concatAt_cons _ _ _ _ (piece 7 x7 h7) trivial))))))))

/-- The maxima of one segment of a block. -/
theorem seg_max {x : FVec Ideal S4096x256 .f32} {f : ℕ → ℕ → EReal} (h : At (a := 4096) (b := 256) x f) (n o : ℕ) (ho : o = 512 * n)
    (hs : S4096x256.Slices ![o, 0] S512x256) :
    At (a := 1) (b := 256) (shapeCast S1x256 (multiReduction .maximumf [0] S256 (extractStridedSlice S512x256 ![o, 0] x hs)
          0xFF800000#32 reduces_S512x256_S256 (.inl rfl) rfl) shapeCasts_S256_S1x256)
      fun _ k => topE 512 (fun r k => f (512 * n + r) k) k := by
  subst ho
  exact At.colmax _ ofBits_ninf _ _ _ _ (At.slice (512 * n) hs h)

/-- The maxima of the eight segments of a kept block. -/
theorem tops_at (hs : Is (a := 1) (b := 256) s fun _ k => S k) (hq : Is (a := 1) (b := 256) q fun _ k => Q k)
    (hg : Is (a := 1) (b := 256) g fun _ k => G k) (hb : At (a := 1) (b := 256) b fun _ k => B k) (hv : ∀ k < 256, 0 < var S Q k + eps)
    (hy : Is (a := 4096) (b := 256) y Y) :
    At (a := 8) (b := 256) (tops s q g b y) fun p k => topE 512 (fun r k => half Y S Q G B (512 * p + r) k) k := by
  have H := half_at hs hq hg hb hv hy
  unfold tops k1_pay6 k1_pay11 k1_pay12 k1_pay13 k1_pay14 k1_pay15
  refine At.cast _ (eight_at (T := fun p k => topE 512 (fun r k => half Y S Q G B (512 * p + r) k) k) ?_ ?_ ?_ ?_ ?_ ?_ ?_ ?_ _)
  · exact seg_max H 0 0 (by norm_num) _
  · exact seg_max H 1 512 (by norm_num) _
  · exact seg_max H 2 1024 (by norm_num) _
  · exact seg_max H 3 1536 (by norm_num) _
  · exact seg_max H 4 2048 (by norm_num) _
  · exact seg_max H 5 2560 (by norm_num) _
  · exact seg_max H 6 3072 (by norm_num) _
  · exact seg_max H 7 3584 (by norm_num) _

end Tops

/-! ## The end of the network -/

theorem pay16_at {s q g : Vec Ideal S1x256 .f32} {wo1 wo2 : Vec Ideal S256x256 .f32} {fb : Vec Ideal S128x256 .f32}
    {bo1 bo2 : Vec Ideal S1x256 .f32} {S Q G : ℕ → ℝ} {E W1 W2 : ℕ → ℕ → EReal} {B1 B2 : ℕ → EReal}
    (hs : Is (a := 1) (b := 256) s fun _ k => S k) (hq : Is (a := 1) (b := 256) q fun _ k => Q k)
    (hg : Is (a := 1) (b := 256) g fun _ k => G k) (hv : ∀ k < 256, 0 < var S Q k + eps)
    (hw1 : At (a := 256) (b := 256) wo1 W1) (he : At (a := 128) (b := 256) fb E) (hb1 : At (a := 1) (b := 256) bo1 fun _ k => B1 k)
    (hw2 : At (a := 256) (b := 256) wo2 W2) (hb2 : At (a := 1) (b := 256) bo2 fun _ k => B2 k) :
    At (a := 16) (b := 2048) (k1_pay16 s q g wo1 fb bo1 wo2 bo2)
      fun r k => encE (fun p k => E p k * (scl S Q G k : EReal)) W1 B1 W2 B2 (8 * r + k / 256) (k % 256) := by
  unfold k1_pay16
  have hsc := scale_is hs hq (Is.cast shapeCasts_S1x256_S1x256 hg) hv
  have key := At.addf (φ := .f32) (At.dot (φ := .f32) (ψ := .f32) dot_S128x256_S256x256_S128x256_1_0_0_1_n_n rfl none
    (At.maximumf (φ := .f32) (At.addf (φ := .f32) (At.dot (φ := .f32) (ψ := .f32) dot_S128x256_S256x256_S128x256_1_0_0_1_n_n rfl none he
    (At.mulf (φ := .f32) hw1 (Is.cols shapeCasts_S1x256_S256x1 broadcasts_S256x1_S256x256 hsc).at))
    (At.rows broadcasts_S1x256_S128x256 (At.cast shapeCasts_S1x256_S1x256 hb1))) is_splat_zero.at) hw2)
    (At.rows broadcasts_S1x256_S128x256 (At.cast shapeCasts_S1x256_S1x256 hb2))
  refine At.truncf _ fun i j => ?_
  have hj : j.val < 2048 := j.isLt
  have hi : i.val < 16 := i.isLt
  refine (shapeCast_apply _ shapeCasts_S128x256_S16x2048 (ix2 i j) (ix2 (⟨8 * i.val + j.val / 256, by omega⟩ : Fin 128) (⟨j.val % 256, Nat.mod_lt _ (by decide)⟩ : Fin 256)) (by
    rw [Shape.rowMajor_val_two, Shape.rowMajor_val_two]
    show (8 * i.val + j.val / 256) * 256 + j.val % 256 = i.val * 2048 + j.val
    omega)).trans ((key _ _).trans ?_)
  unfold encE linE
  simp only [EReal.coe_zero]
  refine congrArg (· + _) (Finset.sum_congr rfl fun c _ => ?_)
  refine congrArg (fun z => max (z + _) 0 * _) (Finset.sum_congr rfl fun d _ => ?_)
  rw [mul_comm (W1 _ _), mul_assoc]

theorem pay7_at {e : FVec Ideal S16x2048 .bf16} {wm1 : Vec Ideal S2048x1024 .bf16} {bm1 : Vec Ideal S1x1024 .f32} {wm2 : Vec Ideal S1024x512 .bf16}
    {bm2 : Vec Ideal S1x512 .f32} {E W1 W2 : ℕ → ℕ → EReal} {B1 B2 : ℕ → EReal}
    (he : At (a := 16) (b := 2048) e E) (hw1 : At (a := 2048) (b := 1024) wm1 W1) (hb1 : At (a := 1) (b := 1024) bm1 fun _ k => B1 k)
    (hw2 : At (a := 1024) (b := 512) wm2 W2) (hb2 : At (a := 1) (b := 512) bm2 fun _ k => B2 k) :
    At (a := 16) (b := 512) (k1_pay7 e (k1_pay17 wm1) bm1 wm2 bm2) (outE E W1 B1 W2 B2) := by
  unfold k1_pay7 k1_pay17
  exact At.addf (At.dot _ rfl _ (At.truncf _ (At.maximumf (At.addf (At.dot _ rfl _ he (At.cast _ hw1)) (At.rows _ (At.cast _ hb1)))
    is_splat_zero.at)) (At.cast _ hw2)) (At.rows _ (At.cast _ hb2))

end Cert.KernelIdeal.Own

end
-- ==== Proof.Ideal.Sums.lean ====
/-
  What the two launches add up, over all their points, as matrices of reals.
-/
module

public import proofs.«01_k».proof.Proof.Ideal.Pays
public import proofs.«01_k».proof.Proof.Ideal.Region0
public import proofs.«01_k».proof.Proof.Ideal.Region1

@[expose] public section

set_option maxRecDepth 16384

noncomputable section

namespace Cert.KernelIdeal.Own

open Cert.KernelIdeal Cert.KernelIdeal.Gen Cert.Net
open Idealize.ShloMosaic Idealize.ShloMosaic.TcCoe Idealize.ShloMosaic.ValueIdx Finset

variable (V : (c : Dev nD) → (b : Ref sig .tc) → Buf (Elt Ideal) ((c : Thread nD τ).loc b)) (c : Dev nD) (I : Inputs)

/-- The first launch's blocks hold the network's inputs. -/
structure Holds0 : Prop where
  rows : ∀ n, Is (a := 8192) (b := 64) (shapeCast S8192x64 (rows0 V c n) shapeCasts_S2x8x512x64_S8192x64) fun r k => I.X (8192 * (n % 8) + r) k
  gam : ∀ n, Is (a := 1) (b := 256) (gam0 V c n) fun _ k => I.g0 k
  bet : ∀ n, Is (a := 1) (b := 256) (bet0 V c n) fun _ k => I.b0 k
  wgt : ∀ n, Is (a := 64) (b := 256) (wgt0 V c n) I.W0
  wA : ∀ n, Is (a := 256) (b := 256) (wgtA V c n) I.WA
  wB : ∀ n, Is (a := 256) (b := 256) (wgtB V c n) I.WB

section First
variable {V c I} (h : Holds0 V c I)
include h

theorem sum0_is (n : ℕ) (hn : n ≤ 8) : Is (a := 1) (b := 256) (sum0 V c n) fun _ k => ∑ i ∈ range n, ∑ r ∈ range 8192, I.Y0 (8192 * i + r) k := by
  induction n with
  | zero => exact zero_row
  | succ n ih =>
    refine Is.of (pay6_is (h.rows n) (h.wgt n) (ih (by omega))) fun r _ k _ => ?_
    rw [Finset.sum_range_succ, Nat.mod_eq_of_lt (by omega : n < 8)]
    rfl
theorem sq0_is (n : ℕ) (hn : n ≤ 8) : Is (a := 1) (b := 256) (sq0 V c n)
    fun _ k => ∑ i ∈ range n, ∑ r ∈ range 8192, I.Y0 (8192 * i + r) k * I.Y0 (8192 * i + r) k := by
  induction n with
  | zero => exact zero_row
  | succ n ih =>
    refine Is.of (pay7_is (h.rows n) (h.wgt n) (ih (by omega))) fun r _ k _ => ?_
    rw [Finset.sum_range_succ, Nat.mod_eq_of_lt (by omega : n < 8)]
    rfl
theorem sum0_all : Is (a := 1) (b := 256) (sum0 V c 8) fun _ k => tots I.Y0 k :=
  Is.of (sum0_is h 8 le_rfl) fun r _ k _ => sum_blocks 8 8192 fun r => I.Y0 r k
theorem sq0_all : Is (a := 1) (b := 256) (sq0 V c 8) fun _ k => sqs I.Y0 k :=
  Is.of (sq0_is h 8 le_rfl) fun r _ k _ => sum_blocks 8 8192 fun r => I.Y0 r k * I.Y0 r k

theorem hid0_is (n : ℕ) (hn : n < 8) : Is (a := 8192) (b := 256) (hid0 V c (8 + n)) fun r k => I.H0 (8192 * n + r) k := by
  have hm : (8 + n) % 8 = n := by omega
  refine Is.of (pay10_is (sum0_all h) (sq0_all h) (h.gam _) (h.bet _) (fun k _ => var_pos I.Y0 k) (h.rows _) (h.wgt _)) fun r _ k _ => ?_
  rw [hm]
  rfl

theorem segf_eq (n i r k : ℕ) (hr : r < 512) :
    segf (fun r k => I.H0 (8192 * n + (512 * i + r)) k) I.WA I.WB r k = I.Y1 (8192 * n + (512 * i + r)) k := by
  unfold Inputs.Y1
  rw [show (8192 * n + (512 * i + r)) % 512 = r by omega, show (8192 * n + (512 * i + r)) / 512 = 16 * n + i by omega]
  refine congrFun (congrFun (congrArg (fun H => segf H I.WA I.WB) ?_) r) k
  funext n' j
  rw [show 8192 * n + (512 * i + n') = 512 * (16 * n + i) + n' by ring]

theorem seg0_is (n : ℕ) (hn : n < 8) (i : ℕ) (hi : i < 16) : Is (a := 512) (b := 256) (seg (hid0 V c (8 + n)) (wgtA V c (8 + n)) (wgtB V c (8 + n)) i)
    fun r k => I.Y1 (8192 * n + (512 * i + r)) k := by
  refine Is.of (seg_is (hid0_is h n hn) (h.wA _) (h.wB _) i) fun r hr k _ => ?_
  rw [Nat.mod_eq_of_lt hi]
  exact segf_eq h n i r k hr

/-- The second layer's rows at a point of the second sweep. -/
theorem block1_is (n : ℕ) (hn : n < 8) : Is (a := 8192) (b := 256) (block1 (hid0 V c (8 + n)) (wgtA V c (8 + n)) (wgtB V c (8 + n)))
    fun r k => I.Y1 (8192 * n + r) k := fun i j => by
  have hi := i.isLt
  unfold block1
  refine (seg0_is h n hn (i.val / 512) (by omega) ⟨i.val % 512, Nat.mod_lt _ (by norm_num)⟩ j).trans ?_
  beta_reduce
  rw [show 512 * (i.val / 512) + i.val % 512 = i.val by omega]

theorem sum1_is (n : ℕ) (hn : n ≤ 8) : Is (a := 1) (b := 256) (sum1 V c n) fun _ k => ∑ i ∈ range n, ∑ r ∈ range 8192, I.Y1 (8192 * i + r) k := by
  induction n with
  | zero => exact zero_row
  | succ n ih =>
    refine Is.of (Is.cast _ (Is.addf (φ := .f32) (ih (by omega)) (segSum_is (hid0_is h n (by omega)) (h.wA _) (h.wB _) 16))) fun r _ k _ => ?_
    beta_reduce
    refine Eq.trans (congrArg _ (Eq.trans ?_ (sum_blocks 16 512 fun r => I.Y1 (8192 * n + r) k))) (Finset.sum_range_succ _ n).symm
    refine Finset.sum_congr rfl fun i hi => Finset.sum_congr rfl fun r hr => ?_
    rw [Nat.mod_eq_of_lt (Finset.mem_range.1 hi)]
    exact segf_eq h n i r k (Finset.mem_range.1 hr)
theorem sq1_is (n : ℕ) (hn : n ≤ 8) : Is (a := 1) (b := 256) (sq1 V c n)
    fun _ k => ∑ i ∈ range n, ∑ r ∈ range 8192, I.Y1 (8192 * i + r) k * I.Y1 (8192 * i + r) k := by
  induction n with
  | zero => exact zero_row
  | succ n ih =>
    refine Is.of (Is.cast _ (Is.addf (φ := .f32) (ih (by omega)) (segSq_is (hid0_is h n (by omega)) (h.wA _) (h.wB _) 16))) fun r _ k _ => ?_
    beta_reduce
    refine Eq.trans (congrArg _ (Eq.trans ?_ (sum_blocks 16 512 fun r => I.Y1 (8192 * n + r) k * I.Y1 (8192 * n + r) k))) (Finset.sum_range_succ _ n).symm
    refine Finset.sum_congr rfl fun i hi => Finset.sum_congr rfl fun r hr => ?_
    rw [Nat.mod_eq_of_lt (Finset.mem_range.1 hi)]
    beta_reduce
    rw [segf_eq h n i r k (Finset.mem_range.1 hr)]
theorem sum1_all : Is (a := 1) (b := 256) (sum1 V c 8) fun _ k => tots I.Y1 k :=
  Is.of (sum1_is h 8 le_rfl) fun r _ k _ => sum_blocks 8 8192 fun r => I.Y1 r k
theorem sq1_all : Is (a := 1) (b := 256) (sq1 V c 8) fun _ k => sqs I.Y1 k :=
  Is.of (sq1_is h 8 le_rfl) fun r _ k _ => sum_blocks 8 8192 fun r => I.Y1 r k * I.Y1 r k

end First

/-- The second launch's blocks hold the second layer, its sums and the network's inputs. -/
structure Holds1 : Prop where
  rows : ∀ n < 16, Is (a := 4096) (b := 256) (rows1At V c n) fun r k => I.Y1 (4096 * n + r) k
  sum : ∀ n, Is (a := 1) (b := 256) (row0 (tot1At V c n)) fun _ k => tots I.Y1 k
  sq : ∀ n, Is (a := 1) (b := 256) (row1 (tot1At V c n)) fun _ k => sqs I.Y1 k
  gam1 : ∀ n, Is (a := 1) (b := 256) (gam1At V c n) fun _ k => I.g1 k
  bet1 : ∀ n, Is (a := 1) (b := 256) (bet1At V c n) fun _ k => I.b1 k
  wgt2 : ∀ n, Is (a := 256) (b := 256) (wgt2At V c n) I.W2
  gam2 : ∀ n, Is (a := 1) (b := 256) (gam2At V c n) fun _ k => I.g2 k
  bet2 : ∀ n, At (a := 1) (b := 256) (bet2At V c n) fun _ k => I.b2 k
  wo1 : ∀ n, At (a := 256) (b := 256) (wo1At V c n) I.Wo1
  bo1 : ∀ n, At (a := 1) (b := 256) (bo1At V c n) fun _ k => I.bo1 k
  wo2 : ∀ n, At (a := 256) (b := 256) (wo2At V c n) I.Wo2
  bo2 : ∀ n, At (a := 1) (b := 256) (bo2At V c n) fun _ k => I.bo2 k
  wm1 : ∀ n, At (a := 2048) (b := 1024) (wm1At V c n) I.Wm1
  bm1 : ∀ n, At (a := 1) (b := 1024) (bm1At V c n) fun _ k => I.bm1 k
  wm2 : ∀ n, At (a := 1024) (b := 512) (wm2At V c n) I.Wm2
  bm2 : ∀ n, At (a := 1) (b := 512) (bm2At V c n) fun _ k => I.bm2 k

section Second
variable {V c I} (h : Holds1 V c I) (p1 : ∀ k < 256, 0 ≤ I.g1 k) (p2 : ∀ k < 256, 0 < I.g2 k)
include h p1

theorem mid_all (n : ℕ) (hn : n < 16) : Is (a := 4096) (b := 256) (mid (tot1At V c n) (gam1At V c n) (bet1At V c n) (wgt2At V c n) (rows1At V c n))
    fun r k => I.Y2K (4096 * n + r) k :=
  mid_is (h.sum n) (h.sq n) (h.gam1 n) (h.bet1 n) (fun k _ => var_pos I.Y1 k) (fun k hk h0 => scl_pos I.Y1 I.g1 k (lt_of_le_of_ne (p1 k hk) (Ne.symm h0))) (h.rows n hn) (h.wgt2 n)

theorem sum2_is (n : ℕ) (hn : n ≤ 16) : Is (a := 1) (b := 256) (sum2 V c n) fun _ k => ∑ i ∈ range n, ∑ r ∈ range 4096, I.Y2K (4096 * i + r) k := by
  induction n with
  | zero => exact zero_row
  | succ n ih =>
    refine Is.of (pay9_is (mid_all h p1 n (by omega)) (ih (by omega))) fun r _ k _ => ?_
    rw [Finset.sum_range_succ]
    rfl
theorem sq2_is (n : ℕ) (hn : n ≤ 16) : Is (a := 1) (b := 256) (sq2 V c n)
    fun _ k => ∑ i ∈ range n, ∑ r ∈ range 4096, I.Y2K (4096 * i + r) k * I.Y2K (4096 * i + r) k := by
  induction n with
  | zero => exact zero_row
  | succ n ih =>
    refine Is.of (pay4_is (mid_all h p1 n (by omega)) (ih (by omega))) fun r _ k _ => ?_
    rw [Finset.sum_range_succ]
    rfl
theorem sum2_all : Is (a := 1) (b := 256) (sum2 V c 16) fun _ k => tots I.Y2K k :=
  Is.of (sum2_is h p1 16 le_rfl) fun r _ k _ => sum_blocks 16 4096 fun r => I.Y2K r k
theorem sq2_all : Is (a := 1) (b := 256) (sq2 V c 16) fun _ k => sqs I.Y2K k :=
  Is.of (sq2_is h p1 16 le_rfl) fun r _ k _ => sum_blocks 16 4096 fun r => I.Y2K r k * I.Y2K r k

/-- The pooled rows, without their scale. -/
theorem pooled_at : At (a := 128) (b := 256) (pooled V c)
    fun p k => topE 512 (fun r k => half I.Y2K (tots I.Y2K) (sqs I.Y2K) I.g2 I.b2 (512 * p + r) k) k := fun i j => by
  have hi := i.isLt
  unfold pooled stack
  refine (tops_at (sum2_all h p1) (sq2_all h p1) (h.gam2 _) (h.bet2 _) (fun k _ => var_pos I.Y2K k) (keep_is (mid_all h p1 (i.val / 8) (by omega)))
    ⟨i.val % 8, Nat.mod_lt _ (by norm_num)⟩ j).trans ?_
  unfold topE
  refine Finset.sup_congr rfl fun r _ => ?_
  unfold half
  beta_reduce
  rw [show 4096 * (i.val / 8) + (512 * (i.val % 8) + r) = 512 * i.val + r by omega]

include p2
/-- Scaled, they are the network's. -/
theorem pool_eq (p k : ℕ) (hk : k < 256) :
    topE 512 (fun r k => half I.Y2K (tots I.Y2K) (sqs I.Y2K) I.g2 I.b2 (512 * p + r) k) k * ((scl (tots I.Y2K) (sqs I.Y2K) I.g2 k : ℝ) : EReal) = I.pool p k := by
  have hs := scl_pos I.Y2K I.g2 k (p2 k hk)
  rw [topE_scale _ _ _ hs]
  unfold Inputs.pool topE
  refine Finset.sup_congr rfl fun r _ => ?_
  refine Eq.trans ?_ (I.H2_eq _ _).symm
  unfold half
  exact max_scaleE _ _ _ _ hs

theorem last2_at : At (a := 16) (b := 512) (last2 V c 31) I.out := by
  unfold last2 ending
  refine At.of (pay7_at (pay16_at (sum2_all h p1) (sq2_all h p1) (h.gam2 _) (fun k _ => var_pos I.Y2K k) (h.wo1 _) (pooled_at h p1) (h.bo1 _) (h.wo2 _) (h.bo2 _))
    (h.wm1 _) (h.bm1 _) (h.wm2 _) (h.bm2 _)) fun r _ k _ => ?_
  refine outE_congr fun c _ => ?_
  exact encE_congr fun c' hc' => pool_eq h p1 p2 _ _ hc'

end Second

end Cert.KernelIdeal.Own

end
-- ==== Proof.Ideal.Value.lean ====
/-
  The kernel's result: what the second launch leaves in its result array is the network of the arguments.
-/
module

public import proofs.«01_k».proof.Proof.Ideal.Host
public import proofs.«01_k».proof.Proof.Ideal.Blocks
public import proofs.«01_k».proof.Proof.Ideal.Sums

@[expose] public section

set_option maxRecDepth 16384

noncomputable section

namespace Cert.KernelIdeal.Own

open Cert.KernelIdeal Cert.KernelIdeal.Gen Cert.Net
open Idealize.ShloMosaic Idealize.ShloMosaic.TcCoe Idealize.ShloMosaic.ValueIdx

variable (m : (ℓ : Loc nD τ sig) → Buf (Elt Ideal) ℓ) (c : Dev nD)

/-- The arguments as launched. -/
def argsOf : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)

/-- A finite vector laid out as a row. -/
theorem is_row {a : ℕ} (x : (⟨1, ![a]⟩ : Shape).Idx → EReal) (hx : ∀ i, Fin' (x i)) (h : (⟨1, ![a]⟩ : Shape).ShapeCasts ⟨2, ![1, a]⟩) :
    Is (shapeCast ⟨2, ![1, a]⟩ x h) fun _ k => (vec x k).toReal := fun i j => by
  refine (at_row x h i j).trans ((vec_apply x j).symm.trans (vec_real x hx j))

variable (h : (argsOf m c).Fine)
include h

/-! ## The first launch -/

theorem rows_at (n : ℕ) : Is (a := 8192) (b := 64) (shapeCast S8192x64 (rows0 (at0 m) c n) shapeCasts_S2x8x512x64_S8192x64)
    fun r k => (argsOf m c).net.X (8192 * (n % 8) + r) k := fun i j => by
  have hi := i.isLt
  have hj := j.isLt
  have e := shapeCast_apply (rows0 (at0 m) c n) shapeCasts_S2x8x512x64_S8192x64 (ix2 i j)
    (ix4 (⟨i.val / 4096, by omega⟩ : Fin 2) (⟨i.val / 512 % 8, by omega⟩ : Fin 8) (⟨i.val % 512, by omega⟩ : Fin 512) j)
    (by
      rw [Shape.rowMajor_val_two, Shape.rowMajor_val_four]
      show ((i.val / 4096 * 8 + i.val / 512 % 8) * 512 + i.val % 512) * 64 + j.val = i.val * 64 + j.val
      omega)
  refine e.trans ((rows0_apply (at0 m) c n _ _ _ _).trans ?_)
  have e' : at0 m c main_arg0 = (argsOf m c).x0 := (V1_of m c main_arg0 (by decide)).trans rfl
  refine (congrFun e' _).trans ((h.f0 _).symm.trans ?_)
  show _ = (((argsOf m c).x0 _).toReal : EReal)
  congr 2
  refine congrArg (argsOf m c).x0 (funext fun a => Fin.ext ?_)
  match a with
  | ⟨0, _⟩ =>
    show 2 * (n % 8) + i.val / 4096 = (8192 * (n % 8) + i.val) / 4096 % 16
    omega
  | ⟨1, _⟩ =>
    show i.val / 512 % 8 = (8192 * (n % 8) + i.val) / 512 % 8
    omega
  | ⟨2, _⟩ =>
    show i.val % 512 = (8192 * (n % 8) + i.val) % 512
    omega
  | ⟨3, _⟩ =>
    show j.val = j.val % 64
    omega

theorem holds0 : Holds0 (at0 m) c (argsOf m c).net where
  rows := rows_at m c h
  gam n := by
    rw [gam0_eq, show at0 m c main_v6 = _ from hostOps0_v6 (V0 m c)]
    exact is_row _ h.f3 _
  bet n := by
    rw [bet0_eq, show at0 m c main_v7 = _ from hostOps0_v7 (V0 m c)]
    exact is_row _ h.f4 _
  wgt n := by
    rw [wgt0_eq, show at0 m c main_v0 = _ from hostOps0_v0 (V0 m c)]
    exact Is.truncf _ (is_mat _ h.f2)
  wA n := by
    rw [wgtA_eq, show at0 m c main_v3 = _ from hostOps0_v3 (V0 m c)]
    refine Is.truncf _ (Is.of (Is.slice _ _ (is_mat (argsOf m c).x5 h.f5)) fun r _ k _ => ?_)
    simp only [Nat.zero_add]
    rfl
  wB n := by
    rw [wgtB_eq, show at0 m c main_v5 = _ from hostOps0_v5 (V0 m c)]
    exact Is.truncf _ (Is.slice _ _ (is_mat (argsOf m c).x5 h.f5))

/-! ## Between the launches -/

omit h in
theorem fst_at : at1 m c main_v8_0 = lay1 (at0 m) c :=
  (V3_of m (outs m) c main_v8_0 (by decide)).trans <| (V2_fst m c).trans <|
    (Pipeline.afterRegion_arr (dat0 (at0 m) c) (V1 m c) winFacts0.arr_inj 6).trans (arr0_6 (at0 m) c)
omit h in
theorem snd_at : at1 m c main_v8_1 = rows2 (sum1 (at0 m) c 8) (sq1 (at0 m) c 8) :=
  (V3_of m (outs m) c main_v8_1 (by decide)).trans <| (V2_snd m c).trans <|
    (Pipeline.afterRegion_arr (dat0 (at0 m) c) (V1 m c) winFacts0.arr_inj 7).trans (arr0_7 (at0 m) c)

theorem lay1_is : Is (a := 65536) (b := 256) (lay1 (at0 m) c) (argsOf m c).net.Y1 := fun i j => by
  have hi := i.isLt
  have e := block1_is (holds0 m c h) (i.val / 8192) (by omega) (⟨i.val % 8192, by omega⟩ : Fin 8192) j
  refine e.trans ?_
  show (((argsOf m c).net.Y1 (8192 * (i.val / 8192) + i.val % 8192) j.val : ℝ) : EReal) = _
  rw [Nat.div_add_mod]

omit h in
/-- An argument as the second launch finds it. -/
theorem kept (r : Ref sig .tc) (h1 : r ∉ hostOps0_W) (h2 : r ∉ ([main_v8_0, main_v8_1] : List (Ref sig .tc))) : V2 m (outs m) c r = V0 m c r :=
  (V2_of m (outs m) c r h2).trans (V1_of m c r h1)

omit h in
/-- The upper of two rows, -/
theorem row0_rows2 (s q : Vec Ideal S1x256 .f32) : row0 (rows2 s q) = s := funext fun y => by
  have h0 : (y 0).val < 1 := (y 0).isLt
  have e : ((Rect.unit (s := S2x256) ![0, 0] S1x256.size inb_S2x256_S1x256_0_0).idx y 0).val = 0 := by
    rw [Rect.idx_unit_val]
    show 0 + (y 0).val = 0
    omega
  show rows2 s q ((Rect.unit (s := S2x256) ![0, 0] S1x256.size inb_S2x256_S1x256_0_0).idx y) = _
  unfold rows2
  rw [if_pos e]
  refine congrArg s (funext fun a => Fin.ext ?_)
  match a with
  | ⟨0, _⟩ => exact (Nat.lt_one_iff.mp h0).symm
  | ⟨1, _⟩ => exact (Rect.idx_unit_val _ _ _ _ _).trans (Nat.zero_add _)
omit h in
/-- and the lower. -/
theorem row1_rows2 (s q : Vec Ideal S1x256 .f32) : row1 (rows2 s q) = q := funext fun y => by
  have h0 : (y 0).val < 1 := (y 0).isLt
  have e : ((Rect.unit (s := S2x256) ![1, 0] S1x256.size inb_S2x256_S1x256_1_0).idx y 0).val ≠ 0 := by
    rw [Rect.idx_unit_val]
    show 1 + (y 0).val ≠ 0
    omega
  show rows2 s q ((Rect.unit (s := S2x256) ![1, 0] S1x256.size inb_S2x256_S1x256_1_0).idx y) = _
  unfold rows2
  rw [if_neg e]
  refine congrArg q (funext fun a => Fin.ext ?_)
  match a with
  | ⟨0, _⟩ => exact (Nat.lt_one_iff.mp h0).symm
  | ⟨1, _⟩ => exact (Rect.idx_unit_val _ _ _ _ _).trans (Nat.zero_add _)

/-! ## The second launch -/

theorem holds1 : Holds1 (at1 m) c (argsOf m c).net where
  rows n hn := fun i j => by
    have hi := i.isLt
    refine (rows1At_apply (at1 m) c n hn i j).trans ((congrFun (fst_at m c) _).trans ?_)
    exact lay1_is m c h _ j
  sum n := by
    rw [tot1At_eq, snd_at m c, row0_rows2]
    exact sum1_all (holds0 m c h)
  sq n := by
    rw [tot1At_eq, snd_at m c, row1_rows2]
    exact sq1_all (holds0 m c h)
  gam1 n := by
    rw [gam1At_eq, show at1 m c main_v9 = _ from hostOps1_v9 (V2 m (outs m) c), kept m c main_arg6 (by decide) (by decide)]
    exact is_row _ h.f6 _
  bet1 n := by
    rw [bet1At_eq, show at1 m c main_v10 = _ from hostOps1_v10 (V2 m (outs m) c), kept m c main_arg7 (by decide) (by decide)]
    exact is_row _ h.f7 _
  wgt2 n := by
    rw [wgt2At_eq, show at1 m c main_v1 = _ from (V3_of m (outs m) c main_v1 (by decide)).trans
      ((V2_of m (outs m) c main_v1 (by decide)).trans (hostOps0_v1 (V0 m c)))]
    exact Is.truncf _ (is_mat _ h.f8)
  gam2 n := by
    rw [gam2At_eq, show at1 m c main_v11 = _ from hostOps1_v11 (V2 m (outs m) c), kept m c main_arg9 (by decide) (by decide)]
    exact is_row _ h.f9 _
  bet2 n := by
    rw [bet2At_eq, show at1 m c main_v12 = _ from hostOps1_v12 (V2 m (outs m) c), kept m c main_arg10 (by decide) (by decide)]
    exact at_row _ _
  wo1 n := by
    rw [wo1At_eq, show at1 m c main_arg11 = _ from (V3_of m (outs m) c main_arg11 (by decide)).trans (kept m c main_arg11 (by decide) (by decide))]
    exact at_mat _
  bo1 n := by
    rw [bo1At_eq, show at1 m c main_v13 = _ from hostOps1_v13 (V2 m (outs m) c), kept m c main_arg12 (by decide) (by decide)]
    exact at_row _ _
  wo2 n := by
    rw [wo2At_eq, show at1 m c main_arg13 = _ from (V3_of m (outs m) c main_arg13 (by decide)).trans (kept m c main_arg13 (by decide) (by decide))]
    exact at_mat _
  bo2 n := by
    rw [bo2At_eq, show at1 m c main_v14 = _ from hostOps1_v14 (V2 m (outs m) c), kept m c main_arg14 (by decide) (by decide)]
    exact at_row _ _
  wm1 n := by
    rw [wm1At_eq, show at1 m c main_v15 = _ from hostOps1_v15 (V2 m (outs m) c), kept m c main_arg15 (by decide) (by decide)]
    exact At.truncf _ (at_mat _)
  bm1 n := by
    rw [bm1At_eq, show at1 m c main_v16 = _ from hostOps1_v16 (V2 m (outs m) c), kept m c main_arg16 (by decide) (by decide)]
    exact at_row _ _
  wm2 n := by
    rw [wm2At_eq, show at1 m c main_v17 = _ from hostOps1_v17 (V2 m (outs m) c), kept m c main_arg17 (by decide) (by decide)]
    exact At.truncf _ (at_mat _)
  bm2 n := by
    rw [bm2At_eq, show at1 m c main_v18 = _ from hostOps1_v18 (V2 m (outs m) c), kept m c main_arg18 (by decide) (by decide)]
    exact at_row _ _

/-- What the second launch leaves, -/
theorem last_at : At (a := 16) (b := 512) (last2 (at1 m) c 31) (argsOf m c).net.out :=
  last2_at (holds1 m c h) (fun k hk => vec_nonneg _ h.f6 h.p6 k hk) (fun k hk => vec_pos _ h.f9 h.p9 k hk)

omit h in
/-- and the result, the same with its rows cut in eight. -/
theorem res_eq : V5 m (outs m) c main_v20 = shapeCast S16x8x64 (last2 (at1 m) c 31) shapeCasts_S16x512_S16x8x64 := by
  refine (hostOps2_v20 (V4 m (outs m) c)).trans ?_
  refine congrArg (fun x => shapeCast S16x8x64 x shapeCasts_S16x512_S16x8x64) ?_
  exact (V4_res m c).trans ((Pipeline.afterRegion_arr (dat1 (at1 m) c) (V3 m (outsA m) c) winFacts1.arr_inj 15).trans (arr1_15 (at1 m) c))

end Cert.KernelIdeal.Own

end
-- ==== Proof.Ref.Norm.lean ====
/-
  The reference's batch normalisation, read as a matrix: from a matrix of reals, a real scale and any shift.
-/
module

public import proofs.«01_k».proof.Proof.Net.Network
public import proofs.«01_k».proof.Proof.Gen.ReferenceIdeal.Read
public import Idealize.ShloMosaic.Lib.StackMember

@[expose] public section

set_option maxRecDepth 16384

noncomputable section

namespace Cert.ReferenceIdeal.Own

open Cert.ReferenceIdeal Cert.ReferenceIdeal.Gen Cert.Net
open Idealize.ShloMosaic Idealize.ShloMosaic.ValueIdx Finset

variable {a b d : ℕ}

/-- A product of two matrices. -/
theorem at_dot {x : FVec Ideal ⟨2, ![a, d]⟩ .f32} {y : FVec Ideal ⟨2, ![d, b]⟩ .f32} {f g : ℕ → ℕ → EReal}
    (D : DotDims ⟨2, ![a, d]⟩ ⟨2, ![d, b]⟩ ⟨2, ![a, b]⟩) (hD : D = DotDims.plain a d b) (hx : At x f) (hy : At y g) :
    At (Host.dotGeneral D none x y) (linE d f g) := fun i j => by
  subst hD
  refine (StackMember.dotGeneral_plain_apply none x y i j).trans ?_
  unfold linE
  rw [Finset.sum_range]
  exact Finset.sum_congr rfl fun k _ => by rw [hx, hy]
theorem is_dot {x : FVec Ideal ⟨2, ![a, d]⟩ .f32} {y : FVec Ideal ⟨2, ![d, b]⟩ .f32} {f g : ℕ → ℕ → ℝ}
    (D : DotDims ⟨2, ![a, d]⟩ ⟨2, ![d, b]⟩ ⟨2, ![a, b]⟩) (hD : D = DotDims.plain a d b) (hx : Is x f) (hy : Is y g) :
    Is (Host.dotGeneral D none x y) (lin d f g) := fun i j => by
  rw [at_dot D hD hx.at hy.at i j, linE_coe]

/-- A vector laid out as a row and repeated over the rows. -/
theorem at_rows (x : (⟨1, ![b]⟩ : Shape).Idx → EReal) (f : ℕ → EReal) (hx : ∀ j : Fin b, x (ix1 j) = f j)
    (h : (⟨1, ![b]⟩ : Shape).BroadcastsInDim ⟨2, ![1, b]⟩ ![1]) (h' : (⟨2, ![1, b]⟩ : Shape).BroadcastsInDim ⟨2, ![a, b]⟩ ![0, 1]) :
    At (broadcastInDim ⟨2, ![a, b]⟩ ![0, 1] h' (broadcastInDim ⟨2, ![1, b]⟩ ![1] h x)) fun _ k => f k := fun i j => by
  have e : j.val = if b = 1 then 0 else j.val := by
    split
    · have := j.isLt; omega
    · rfl
  refine (broadcastInDim_apply ![0, 1] h' _ (ix2 i j) (ix2 (0 : Fin 1) j) fun ax => ?_).trans
    ((broadcastInDim_apply ![1] h x (ix2 (0 : Fin 1) j) (ix1 j) fun ax => ?_).trans (hx j))
  · match ax with
    | ⟨0, _⟩ => rfl
    | ⟨1, _⟩ => exact e
  · match ax with
    | ⟨0, _⟩ => exact e

/-- The column sums. -/
theorem sum_col (y : FVec Ideal S65536x256 .f32) (Y : ℕ → ℕ → ℝ) (hy : Is (a := 65536) (b := 256) y Y) (j : Fin 256) :
    Host.reduceAdd y (constant S_ .f32 0x00000000#32) reducesTo_S65536x256_S256_d0 h_S_ (ix1 j) = ((tots Y j : ℝ) : EReal) := by
  simp only [Host.reduceAdd, Ideal.hostReduceAdd_def]
  rw [Ideal.hostReduceAdd_single reducesTo_S65536x256_S256_d0 (by decide)]
  rw [show (constant S_ .f32 0x00000000#32 : FVec Ideal S_ .f32) (Shape.Idx.first h_S_) = 0 from Ideal.ofBits_zero_f32, zero_add]
  unfold tots tot
  rw [coe_sum, Finset.sum_range]
  exact Finset.sum_congr rfl fun k _ => (congrArg y (lift_col _ j k)).trans (hy k j)

/-- The column means, -/
def means (y : FVec Ideal S65536x256 .f32) : FVec Ideal S256 .f32 :=
  Host.divf (Host.reduceAdd y (constant S_ .f32 0x00000000#32) reducesTo_S65536x256_S256_d0 h_S_)
    (broadcastInDim S256 ![] bcast_S_S256 (constant S_ .f32 0x47800000#32))

/-- the squared distances from them, -/
def dists (y : FVec Ideal S65536x256 .f32) : FVec Ideal S65536x256 .f32 :=
  subf y (broadcastInDim S65536x256 ![0, 1] bcast_S1x256_S65536x256_0_1
    (Host.divf (broadcastInDim S1x256 ![1] bcast_S256_S1x256_1 (Host.reduceAdd y (constant S_ .f32 0x00000000#32) reducesTo_S65536x256_S256_d0 h_S_))
      (broadcastInDim S1x256 ![] bcast_S_S1x256 (constant S_ .f32 0x47800000#32))))

/-- the number of rows as the variance divides by it, -/
def count : FVec Ideal S_ .f32 := subf (constant S_ .f32 0x47800000#32) (sitofp .f32 (constantI S_ 32 0#32))

/-- the variances, -/
def vars (y : FVec Ideal S65536x256 .f32) : FVec Ideal S256 .f32 :=
  select (broadcastInDim S256 ![] bcast_S_S256 (cmpf .ogt count (constant S_ .f32 0x00000000#32)))
    (Host.divf (Host.reduceAdd (mulf (dists y) (dists y)) (constant S_ .f32 0x00000000#32) reducesTo_S65536x256_S256_d0 h_S_)
      (broadcastInDim S256 ![] bcast_S_S256 count))
    (broadcastInDim S256 ![] bcast_S_S256 (id (constant S_ .f32 0x7FC00000#32)))

/-- a vector over all rows, -/
def over (x : FVec Ideal S256 .f32) : FVec Ideal S65536x256 .f32 :=
  broadcastInDim S65536x256 ![0, 1] bcast_S1x256_S65536x256_0_1 (broadcastInDim S1x256 ![1] bcast_S256_S1x256_1 x)

/-- and the normalisation with its rectifier. -/
def norm (y : FVec Ideal S65536x256 .f32) (g b : FVec Ideal S256 .f32) : FVec Ideal S65536x256 .f32 :=
  maximumf (addf (Host.divf (mulf (over g) (subf y (over (means y))))
      (over (Host.sqrt (addf (vars y) (broadcastInDim S256 ![] bcast_S_S256 (constant S_ .f32 0x3727C5AC#32)))))) (over b))
    (broadcastInDim S65536x256 ![] bcast_S_S65536x256 (constant S_ .f32 0x00000000#32))

section
variable {y : FVec Ideal S65536x256 .f32} {Y : ℕ → ℕ → ℝ} (hy : Is (a := 65536) (b := 256) y Y)
include hy

theorem means_apply (j : Fin 256) : means y (ix1 j) = ((tots Y j / 65536 : ℝ) : EReal) := by
  show Ideal.div (Host.reduceAdd y (constant S_ .f32 0x00000000#32) reducesTo_S65536x256_S256_d0 h_S_ (ix1 j)) (Ideal.ofBits .f32 0x47800000#32) = _
  rw [sum_col y Y hy j, ofBits_rows, Ideal.div_coe (by norm_num), ← EReal.coe_mul, mul_one_div]

theorem dists_is : Is (a := 65536) (b := 256) (dists y) fun r k => Y r k - tots Y k / 65536 := by
  unfold dists
  refine Is.subf hy fun i j => ?_
  refine (broadcastInDim_apply ![0, 1] bcast_S1x256_S65536x256_0_1 _ (ix2 i j) (ix2 (0 : Fin 1) j) fun ax => ?_).trans ?_
  · match ax with
    | ⟨0, _⟩ => rfl
    | ⟨1, _⟩ => rfl
  have e := broadcastInDim_apply ![1] bcast_S256_S1x256_1 (Host.reduceAdd y (constant S_ .f32 0x00000000#32) reducesTo_S65536x256_S256_d0 h_S_)
    (ix2 (0 : Fin 1) j) (ix1 j) fun ax => by
      match ax with
      | ⟨0, _⟩ => rfl
  show Ideal.div (broadcastInDim S1x256 ![1] bcast_S256_S1x256_1 (Host.reduceAdd y (constant S_ .f32 0x00000000#32) reducesTo_S65536x256_S256_d0 h_S_)
    (ix2 (0 : Fin 1) j)) (Ideal.ofBits .f32 0x47800000#32) = _
  rw [e, sum_col y Y hy j, ofBits_rows, Ideal.div_coe (by norm_num), ← EReal.coe_mul, mul_one_div]

omit hy in
theorem count_apply (i : S_.Idx) : count i = ((65536 : ℝ) : EReal) := by
  show (Ideal.ofBits .f32 0x47800000#32 : EReal) - (((0#32 : BitVec 32).toInt : ℝ) : EReal) = _
  rw [ofBits_rows]
  simp

theorem vars_apply (j : Fin 256) : vars y (ix1 j) = ((var (tots Y) (sqs Y) j : ℝ) : EReal) := by
  have hc : Ideal.cmp .ogt ((65536 : ℝ) : EReal) (Ideal.ofBits .f32 0x00000000#32) = 1#1 := by
    rw [Ideal.ofBits_zero_f32]
    simp [Ideal.cmp]
  unfold vars
  rw [select_apply]
  have h1 : broadcastInDim S256 ![] bcast_S_S256 (cmpf .ogt count (constant S_ .f32 0x00000000#32)) (ix1 j) = 1#1 := by
    show Ideal.cmp .ogt (count _) (Ideal.ofBits .f32 0x00000000#32) = 1#1
    rw [count_apply, hc]
  rw [h1]
  show Ideal.div _ (count _) = _
  rw [sum_col _ _ (Is.mulf (dists_is hy) (dists_is hy)) j, count_apply, Ideal.div_coe (by norm_num), ← EReal.coe_mul, mul_one_div, var_eq]
  rfl

theorem norm_at {g b : FVec Ideal S256 .f32} {G : ℕ → ℝ} {B : ℕ → EReal} (hg : ∀ j : Fin 256, g (ix1 j) = ((G j : ℝ) : EReal))
    (hb : ∀ j : Fin 256, b (ix1 j) = B j) :
    At (a := 65536) (b := 256) (norm y g b)
      fun r k => max (((Y r k - tots Y k / 65536) * scl (tots Y) (sqs Y) G k : ℝ) + B k) 0 := by
  have hsd : ∀ j : Fin 256, (Host.sqrt (addf (vars y) (broadcastInDim S256 ![] bcast_S_S256 (constant S_ .f32 0x3727C5AC#32))) : FVec Ideal S256 .f32) (ix1 j)
      = ((Real.sqrt (var (tots Y) (sqs Y) j + eps) : ℝ) : EReal) := fun j => by
    show Ideal.sqrt (vars y (ix1 j) + Ideal.ofBits .f32 0x3727C5AC#32) = _
    rw [vars_apply hy, ofBits_eps, ← EReal.coe_add, Ideal.sqrt_coe, if_neg (var_pos Y j).le.not_gt]
  have hnum : Is (a := 65536) (b := 256) (mulf (over g) (subf y (over (means y)))) fun r k => G k * (Y r k - tots Y k / 65536) :=
    Is.mulf (at_rows g (fun k => ((G k : ℝ) : EReal)) hg _ _) (Is.subf hy (at_rows (means y) (fun k => ((tots Y k / 65536 : ℝ) : EReal)) (means_apply hy) _ _))
  have hden : Is (a := 65536) (b := 256) (over (Host.sqrt (addf (vars y) (broadcastInDim S256 ![] bcast_S_S256 (constant S_ .f32 0x3727C5AC#32)))))
      fun _ k => Real.sqrt (var (tots Y) (sqs Y) k + eps) :=
    at_rows _ (fun k => ((Real.sqrt (var (tots Y) (sqs Y) k + eps) : ℝ) : EReal)) hsd _ _
  intro i j
  show max (Ideal.div (mulf (over g) (subf y (over (means y))) (ix2 i j)) (over _ (ix2 i j)) + over b (ix2 i j)) (Ideal.ofBits .f32 0x00000000#32) = _
  rw [hnum i j, hden i j, Ideal.ofBits_zero_f32, Ideal.div_coe (Real.sqrt_pos.2 (var_pos Y j)).ne', ← EReal.coe_mul]
  refine congrArg₂ max (congrArg₂ (· + ·) (congrArg _ ?_) (at_rows b B hb _ _ i j)) rfl
  unfold scl
  rw [one_div]; ring

/-- With a real shift the result is real. -/
theorem norm_is {g b : FVec Ideal S256 .f32} {G B : ℕ → ℝ} (hg : ∀ j : Fin 256, g (ix1 j) = ((G j : ℝ) : EReal))
    (hb : ∀ j : Fin 256, b (ix1 j) = ((B j : ℝ) : EReal)) : Is (a := 65536) (b := 256) (norm y g b) (act Y G B) := fun i j => by
  rw [norm_at hy (B := fun k => ((B k : ℝ) : EReal)) hg hb i j]
  beta_reduce
  rw [← EReal.coe_add, ← EReal.coe_zero, ← coe_max]
  refine congrArg _ (congrArg (max · 0) ?_)
  unfold sft
  ring

end

end Cert.ReferenceIdeal.Own

end
-- ==== Proof.Ref.Value.lean ====
/-
  What the reference computes, as a matrix: the network of Net/Network.lean.
-/
module

public import proofs.«01_k».proof.Proof.Ref.Norm

@[expose] public section

set_option maxRecDepth 16384

noncomputable section

namespace Cert.ReferenceIdeal.Own

open Cert.ReferenceIdeal Cert.ReferenceIdeal.Gen Cert.ReferenceIdeal.Read Cert.Net
open Idealize.ShloMosaic Idealize.ShloMosaic.ValueIdx Finset

/-- Rows numbered through polylines: an array of four axes holds the matrix `f`, -/
def At4 (v : S16x8x512x256.Idx → EReal) (f : ℕ → ℕ → EReal) : Prop :=
  ∀ (a : Fin 16) (p : Fin 8) (n : Fin 512) (k : Fin 256), v (ix4 a p n k) = f (4096 * a.val + 512 * p.val + n.val) k
/-- and one of three. -/
def At3 (v : S16x8x256.Idx → EReal) (f : ℕ → ℕ → EReal) : Prop :=
  ∀ (a : Fin 16) (p : Fin 8) (k : Fin 256), v (ix3 a p k) = f (8 * a.val + p.val) k

/-- Rows split into polylines. -/
theorem split_at {v : S65536x256.Idx → EReal} {f : ℕ → ℕ → EReal} (h : At (a := 65536) (b := 256) v f) :
    At4 (shapeCast S16x8x512x256 v shapeCasts_S65536x256_S16x8x512x256) f := fun a p n k => by
  have ha := a.isLt; have hp := p.isLt; have hn := n.isLt
  refine (shapeCast_apply v shapeCasts_S65536x256_S16x8x512x256 (ix4 a p n k) (ix2 (⟨4096 * a.val + 512 * p.val + n.val, by omega⟩ : Fin 65536) k) ?_).trans (h _ k)
  rw [Shape.rowMajor_val_two, Shape.rowMajor_val_four]
  show (4096 * a.val + 512 * p.val + n.val) * 256 + k.val = ((a.val * 8 + p.val) * 512 + n.val) * 256 + k.val
  omega

/-- Two halves side by side, rows numbered through polylines. -/
theorem join_at {v w : S16x8x512x256.Idx → EReal} {f g : ℕ → ℕ → EReal} (h : At4 v f) (h' : At4 w g) :
    At (a := 65536) (b := 512) (shapeCast S65536x512 (concatenate S16x8x512x512 3 [⟨S16x8x512x256, v⟩, ⟨S16x8x512x256, w⟩]
      concatenates_S16x8x512x256_S16x8x512x256_S16x8x512x512_d3) shapeCasts_S16x8x512x512_S65536x512)
      fun r k => if k < 256 then f r k else g r (k - 256) := fun i j => by
  have hi := i.isLt; have hj := j.isLt
  have hr : 4096 * (i.val / 4096) + 512 * (i.val / 512 % 8) + i.val % 512 = i.val := by omega
  refine (shapeCast_apply _ shapeCasts_S16x8x512x512_S65536x512 (ix2 i j) (ix4 (⟨i.val / 4096, by omega⟩ : Fin 16) (⟨i.val / 512 % 8, by omega⟩ : Fin 8)
    (⟨i.val % 512, by omega⟩ : Fin 512) j) ?_).trans ?_
  · rw [Shape.rowMajor_val_two, Shape.rowMajor_val_four]
    show ((i.val / 4096 * 8 + i.val / 512 % 8) * 512 + i.val % 512) * 512 + j.val = i.val * 512 + j.val
    omega
  beta_reduce
  split
  · rename_i hlt
    refine (concatenate_pair_apply_left (t := S16x8x512x512) (s₁ := S16x8x512x256) (s₂ := S16x8x512x256) 3 v w _ _ rfl (ix4 (⟨i.val / 4096, by omega⟩ : Fin 16) (⟨i.val / 512 % 8, by omega⟩ : Fin 8)
      (⟨i.val % 512, by omega⟩ : Fin 512) (⟨j.val, hlt⟩ : Fin 256)) fun ax => ?_).trans ((h _ _ _ _).trans (congrArg (f · j.val) hr))
    match ax with
    | ⟨0, _⟩ => rfl
    | ⟨1, _⟩ => rfl
    | ⟨2, _⟩ => rfl
    | ⟨3, _⟩ => rfl
  · rename_i hlt
    refine (concatenate_pair_apply_right (t := S16x8x512x512) (s₁ := S16x8x512x256) (s₂ := S16x8x512x256) 3 v w _ _ rfl rfl (ix4 (⟨i.val / 4096, by omega⟩ : Fin 16) (⟨i.val / 512 % 8, by omega⟩ : Fin 8)
      (⟨i.val % 512, by omega⟩ : Fin 512) (⟨j.val - 256, by omega⟩ : Fin 256)) (fun ax hax => ?_) ?_).trans
      ((h' _ _ _ _).trans (congrArg (g · (j.val - 256)) hr))
    · match ax with
      | ⟨0, _⟩ => rfl
      | ⟨1, _⟩ => rfl
      | ⟨2, _⟩ => rfl
      | ⟨3, _⟩ => exact absurd rfl hax
    · show j.val - 256 + 256 = j.val
      omega

/-- The largest entries of each polyline. -/
theorem max_at {v : FVec Ideal S16x8x512x256 .f32} {f : ℕ → ℕ → EReal} (h : At4 v f) :
    At3 (Host.reduce (FloatOps.maximumf (F := Ideal) (φ := .f32)) v (constant (F := Ideal) S_ .f32 0xFF800000#32 : FVec Ideal S_ .f32) reducesTo_S16x8x512x256_S16x8x256_d2 h_S_)
      fun p k => topE 512 (fun n k => f (512 * p + n) k) k := fun a p k => by
  have hR : S16x8x512x256.Reduces [2] S16x8x256 := by decide
  have key := Host.reduce_eq_fold_single (FloatOps.maximumf (F := Ideal) (φ := .f32)) v (constant (F := Ideal) S_ .f32 0xFF800000#32 : FVec Ideal S_ .f32)
    reducesTo_S16x8x512x256_S16x8x256_d2 hR h_S_ (ix3 a p k)
  have hL : ∀ n : Fin 512, hR.lift (ix3 a p k) n = ix4 a p n k := fun n => funext fun ax => Fin.ext (by
    match ax with
    | ⟨0, _⟩ => rfl
    | ⟨1, _⟩ => rfl
    | ⟨2, _⟩ => rfl
    | ⟨3, _⟩ => rfl)
  refine key.trans ?_
  refine (congrArg (fun z => Finset.fold max z _ _) (show FloatOps.ofBits (F := Ideal) .f32 0xFF800000#32 = (⊥ : EReal) from ofBits_ninf)).trans ?_
  refine ((fold_sup _ _).trans (Finset.sup_congr rfl fun n _ => ?_)).trans (sup_range (a := 512) fun n => f (512 * (8 * a.val + p.val) + n) k)
  refine (congrArg v (hL n)).trans ((h a p n k).trans (congrArg (f · k.val) ?_))
  omega

variable (A : Args)

section Mask
variable (hm : ∀ i, A.x1 i = 1#1)
include hm

/-- With every point present the mask keeps everything. -/
theorem masked (v w : S16x8x512x256.Idx → EReal) : select (val_main_call2_v1 (F := Ideal) A.x1) v w = v := funext fun i => by
  rw [select_apply, val_main_call2_v1_apply, val_main_v23_apply, hm]
  rfl
theorem masked' (v w : S16x8x512x256.Idx → EReal) : select (val_main_call7_v1 (F := Ideal) A.x1) v w = v := funext fun i => by
  rw [select_apply, val_main_call7_v1_apply, val_main_v73_apply, hm]
  rfl

end Mask

variable {A} (h : A.Fine)
include h

/-- The rows. -/
theorem rows_is : Is (a := 65536) (b := 64) (val_main_v0 (F := Ideal) A.x0) A.net.X := fun i j => by
  have hi := i.isLt; have hj := j.isLt
  unfold val_main_v0
  refine (shapeCast_apply A.x0 shapeCasts_S16x8x512x64_S65536x64 (ix2 i j) (ix4 (⟨i.val / 4096 % 16, by omega⟩ : Fin 16) (⟨i.val / 512 % 8, by omega⟩ : Fin 8)
    (⟨i.val % 512, by omega⟩ : Fin 512) (⟨j.val % 64, by omega⟩ : Fin 64)) ?_).trans (h.f0 _).symm
  rw [Shape.rowMajor_val_two, Shape.rowMajor_val_four]
  show ((i.val / 4096 % 16 * 8 + i.val / 512 % 8) * 512 + i.val % 512) * 64 + j.val % 64 = i.val * 64 + j.val
  omega

theorem y0_is : Is (a := 65536) (b := 256) (val_main_v1 (F := Ideal) A.x0 A.x2) A.net.Y0 := is_dot _ rfl (rows_is h) (is_mat A.x2 h.f2)

theorem h0_eq : val_main_v21 (F := Ideal) A.x0 A.x2 A.x3 A.x4 = norm (val_main_v1 (F := Ideal) A.x0 A.x2) A.x3 A.x4 := rfl

theorem h0_is : Is (a := 65536) (b := 256) (val_main_v21 (F := Ideal) A.x0 A.x2 A.x3 A.x4) A.net.H0 := by
  rw [h0_eq h]
  exact norm_is (y0_is h) (vec_real A.x3 h.f3) (vec_real A.x4 h.f4)

theorem h0_split : At4 (val_main_v24 (F := Ideal) A.x0 A.x1 A.x2 A.x3 A.x4) fun r k => (A.net.H0 r k : EReal) := by
  unfold val_main_v24
  rw [masked A h.mask]
  exact split_at (h0_is h).at

theorem top_split : At4 (val_main_v27 (F := Ideal) A.x0 A.x1 A.x2 A.x3 A.x4)
    fun r k => ((top 512 (fun n k => A.net.H0 (512 * (r / 512) + n) k) k : ℝ) : EReal) := fun a p n k => by
  have hn := n.isLt
  rw [val_main_v27_apply, val_main_v26_apply]
  refine (congrArg (val_main_v25 (F := Ideal) A.x0 A.x1 A.x2 A.x3 A.x4) (show _ = ix3 a p k from funext fun ax => ?_)).trans
    ((max_at (h0_split h) a p k).trans ?_)
  · match ax with
    | ⟨0, _⟩ => rfl
    | ⟨1, _⟩ => rfl
    | ⟨2, _⟩ => rfl
  beta_reduce
  rw [coe_top (by norm_num), show (4096 * a.val + 512 * p.val + n.val) / 512 = 8 * a.val + p.val by omega]

theorem y1_is : Is (a := 65536) (b := 256) (val_main_v30 (F := Ideal) A.x0 A.x1 A.x2 A.x3 A.x4 A.x5) A.net.Y1 := fun i j => by
  have hj := j.isLt
  have hjoin : Is (a := 65536) (b := 512) (val_main_v29 (F := Ideal) A.x0 A.x1 A.x2 A.x3 A.x4)
      fun r k => if k < 256 then A.net.H0 r k else top 512 (fun n k => A.net.H0 (512 * (r / 512) + n) k) (k - 256) := fun i j => by
    refine (join_at (h0_split h) (top_split h) i j).trans ?_
    beta_reduce
    split <;> rfl
  refine (is_dot _ rfl hjoin (is_mat A.x5 h.f5) i j).trans (congrArg _ ?_)
  unfold Inputs.Y1 segf lin
  refine (Finset.sum_range_add _ 256 256).trans ?_
  refine congrArg₂ (· + ·) (Finset.sum_congr rfl fun c hc => ?_) (Finset.sum_congr rfl fun c hc => ?_)
  · beta_reduce
    rw [if_pos (Finset.mem_range.1 hc)]
    refine congrArg (fun z => A.net.H0 z c * _) ?_
    omega
  · beta_reduce
    rw [if_neg (by omega), Nat.add_sub_cancel_left]
    rfl

theorem h1_is : Is (a := 65536) (b := 256) (val_main_v50 (F := Ideal) A.x0 A.x1 A.x2 A.x3 A.x4 A.x5 A.x6 A.x7) A.net.H1 := by
  rw [show val_main_v50 (F := Ideal) A.x0 A.x1 A.x2 A.x3 A.x4 A.x5 A.x6 A.x7
    = norm (val_main_v30 (F := Ideal) A.x0 A.x1 A.x2 A.x3 A.x4 A.x5) A.x6 A.x7 from rfl]
  exact norm_is (y1_is h) (vec_real A.x6 h.f6) (vec_real A.x7 h.f7)

theorem y2_is : Is (a := 65536) (b := 256) (val_main_v51 (F := Ideal) A.x0 A.x1 A.x2 A.x3 A.x4 A.x5 A.x6 A.x7 A.x8) A.net.Y2 :=
  is_dot _ rfl (h1_is h) (is_mat A.x8 h.f8)

theorem h2_at : At (a := 65536) (b := 256) (val_main_v71 (F := Ideal) A.x0 A.x1 A.x2 A.x3 A.x4 A.x5 A.x6 A.x7 A.x8 A.x9 A.x10) A.net.H2 := by
  rw [show val_main_v71 (F := Ideal) A.x0 A.x1 A.x2 A.x3 A.x4 A.x5 A.x6 A.x7 A.x8 A.x9 A.x10
    = norm (val_main_v51 (F := Ideal) A.x0 A.x1 A.x2 A.x3 A.x4 A.x5 A.x6 A.x7 A.x8) A.x9 A.x10 from rfl]
  exact norm_at (y2_is h) (vec_real A.x9 h.f9) (vec_apply A.x10)

theorem pool_at : At3 (val_main_v75 (F := Ideal) A.x0 A.x1 A.x2 A.x3 A.x4 A.x5 A.x6 A.x7 A.x8 A.x9 A.x10) A.net.pool := by
  refine max_at (f := A.net.H2) ?_
  unfold val_main_v74
  rw [masked' A h.mask]
  exact split_at (h2_at h)

/-- Every polyline has a point, so none is left out. -/
theorem valid (i : S16x8.Idx) : val_main_v79 (F := Ideal) A.x1 i = 1#1 := by
  have hR : S16x8x512.Reduces [2] S16x8 := by decide
  have hcount : ∀ s : Finset (Fin 512), s.fold IntOp.addi 0#32 (fun _ => 1#32) = BitVec.ofNat 32 s.card := fun s => by
    induction s using Finset.induction_on with
    | empty => rfl
    | insert a s ha ih =>
      rw [Finset.fold_insert ha, ih, Finset.card_insert_of_notMem ha]
      show 1#32 + _ = _
      rw [BitVec.add_comm, ← BitVec.ofNat_add]
  have key : val_main_v77 (F := Ideal) A.x1 i = 512#32 := by
    unfold val_main_v77
    refine (Host.reduce_eq_fold_single IntOp.addi _ _ reducesTo_S16x8x512_S16x8_d2 hR h_S_ i).trans ?_
    refine (Finset.fold_congr fun n _ => ?_).trans ((hcount Finset.univ).trans (by rw [Finset.card_univ, Fintype.card_fin]))
    show val_main_v76 (F := Ideal) A.x1 _ = 1#32
    rw [val_main_v76_apply, h.mask]
    rfl
  rw [val_main_v79_apply, key, val_main_v78_apply]
  rfl

/-! ## After the pooling -/

omit h in
/-- A layer on arrays of three axes. -/
theorem dot3_at {v z : S16x8x256.Idx → EReal} {f : ℕ → ℕ → EReal} (w : S256x256.Idx → EReal) (hv : At3 v f)
    (e : ∀ i, z i = ∑ k : Fin 256, v (lidx_main_v80 i k) * w (ridx_main_v80 i k)) : At3 z (linE 256 f (mat w)) := fun a p k => by
  rw [e]
  unfold linE
  rw [Finset.sum_range]
  refine Finset.sum_congr rfl fun c _ => congrArg₂ (· * ·) ?_ ?_
  · refine (congrArg v (show _ = ix3 a p c from funext fun ax => ?_)).trans (hv a p c)
    match ax with
    | ⟨0, _⟩ => rfl
    | ⟨1, _⟩ => rfl
    | ⟨2, _⟩ => rfl
  · refine (congrArg w (show _ = ix2 c k from funext fun ax => ?_)).trans (at_mat w c k)
    match ax with
    | ⟨0, _⟩ => rfl
    | ⟨1, _⟩ => rfl

omit h in
/-- A vector on the last axis. -/
theorem last_at (x : S256.Idx → EReal) (j : S16x8x256.Idx → S256.Idx) (hj : ∀ i, j i = ix1 (⟨(i 2).val, (i 2).isLt⟩ : Fin 256)) (i : S16x8x256.Idx) :
    x (j i) = vec x (i 2).val := by
  rw [hj]
  exact vec_apply x ⟨(i 2).val, (i 2).isLt⟩

theorem enc1_at : At3 (val_main_v84 (F := Ideal) A.x0 A.x1 A.x2 A.x3 A.x4 A.x5 A.x6 A.x7 A.x8 A.x9 A.x10 A.x11 A.x12)
    fun p k => max (linE 256 A.net.pool A.net.Wo1 p k + A.net.bo1 k) 0 := fun a p k => by
  rw [val_main_v84_apply, val_main_v83_apply, val_main_v82_apply, val_main_v81_apply, val_main_call8_v0_apply]
  rw [dot3_at A.x11 (pool_at h) (val_main_v80_apply A.x0 A.x1 A.x2 A.x3 A.x4 A.x5 A.x6 A.x7 A.x8 A.x9 A.x10 A.x11) a p k]
  rw [last_at A.x12 (fun i => idx_main_v81 (idx_main_v82 i)) (fun i => funext fun ax => by match ax with | ⟨0, _⟩ => rfl) (ix3 a p k)]
  exact congrArg (max _) Ideal.ofBits_zero_f32

theorem enc2_at : At3 (val_main_v90 (F := Ideal) A.x0 A.x1 A.x2 A.x3 A.x4 A.x5 A.x6 A.x7 A.x8 A.x9 A.x10 A.x11 A.x12 A.x13 A.x14)
    (encE A.net.pool A.net.Wo1 A.net.bo1 A.net.Wo2 A.net.bo2) := fun a p k => by
  rw [val_main_v90_apply, val_main_call9_v1_apply, val_main_v89_apply, valid h]
  show val_main_v88 (F := Ideal) A.x0 A.x1 A.x2 A.x3 A.x4 A.x5 A.x6 A.x7 A.x8 A.x9 A.x10 A.x11 A.x12 A.x13 A.x14 (ix3 a p k) = _
  rw [val_main_v88_apply, val_main_v87_apply, val_main_v86_apply]
  rw [dot3_at A.x13 (enc1_at h) (val_main_v85_apply A.x0 A.x1 A.x2 A.x3 A.x4 A.x5 A.x6 A.x7 A.x8 A.x9 A.x10 A.x11 A.x12 A.x13) a p k]
  rw [last_at A.x14 (fun i => idx_main_v86 (idx_main_v87 i)) (fun i => funext fun ax => by match ax with | ⟨0, _⟩ => rfl) (ix3 a p k)]
  rfl

theorem enc_at : At (a := 16) (b := 2048) (val_main_v91 (F := Ideal) A.x0 A.x1 A.x2 A.x3 A.x4 A.x5 A.x6 A.x7 A.x8 A.x9 A.x10 A.x11 A.x12 A.x13 A.x14)
    A.net.enc := fun i j => by
  have hi := i.isLt; have hj := j.isLt
  unfold val_main_v91
  refine (shapeCast_apply _ shapeCasts_S16x8x256_S16x2048 (ix2 i j) (ix3 i (⟨j.val / 256, by omega⟩ : Fin 8) (⟨j.val % 256, by omega⟩ : Fin 256)) ?_).trans
    (enc2_at h _ _ _)
  rw [Shape.rowMajor_val_two, Shape.rowMajor_val_three]
  show (i.val * 8 + j.val / 256) * 256 + j.val % 256 = i.val * 2048 + j.val
  omega

/-- The result before it is laid out in three axes. -/
theorem result_at : At (a := 16) (b := 512)
    (val_main_v100 (F := Ideal) A.x0 A.x1 A.x2 A.x3 A.x4 A.x5 A.x6 A.x7 A.x8 A.x9 A.x10 A.x11 A.x12 A.x13 A.x14 A.x15 A.x16 A.x17 A.x18) A.net.out := by
  have h92 : At (a := 16) (b := 1024) (val_main_v92 (F := Ideal) A.x0 A.x1 A.x2 A.x3 A.x4 A.x5 A.x6 A.x7 A.x8 A.x9 A.x10 A.x11 A.x12 A.x13 A.x14 A.x15)
      (linE 2048 A.net.enc A.net.Wm1) := at_dot _ rfl (enc_at h) (at_mat A.x15)
  have h94 : At (a := 16) (b := 1024) (val_main_v94 (F := Ideal) A.x16) fun _ k => vec A.x16 k :=
    at_rows A.x16 (vec A.x16) (vec_apply A.x16) bcast_S1024_S1x1024_1 bcast_S1x1024_S16x1024_0_1
  have hz : At (a := 16) (b := 1024) (val_main_call10_v0 (F := Ideal)) fun _ _ => 0 := fun i j => by
    rw [val_main_call10_v0_apply]
    exact Ideal.ofBits_zero_f32
  have h96 := At.maximumf (φ := .f32) (At.addf (φ := .f32) h92 h94) hz
  have h99 : At (a := 16) (b := 512) (val_main_v99 (F := Ideal) A.x18) fun _ k => vec A.x18 k :=
    at_rows A.x18 (vec A.x18) (vec_apply A.x18) bcast_S512_S1x512_1 bcast_S1x512_S16x512_0_1
  exact At.addf (φ := .f32) (at_dot _ rfl h96 (at_mat A.x17)) h99

end Cert.ReferenceIdeal.Own

end
-- ==== Proof.Net.Algebraic.lean ====
/-
  The two programs agree: from the same arguments the kernel's result and the reference's are the network's.
-/
module

public import proofs.«01_k».proof.Defs
public import proofs.«01_k».proof.Proof.Net.Pre
public import proofs.«01_k».proof.Proof.Ideal.Value
public import proofs.«01_k».proof.Proof.Ideal.Frame
public import proofs.«01_k».proof.Proof.Ref.Value
public import proofs.«01_k».proof.Proof.Ref.Frame
public import proofs.«01_k».proof.Proof.Gen.ReferenceIdeal.Read

@[expose] public section

set_option maxRecDepth 16384

noncomputable section

namespace Cert.Proof

open Idealize.ShloMosaic Idealize.SL.Sem Idealize.ShloMosaic.ValueIdx
open Cert.Net Cert.KernelIdeal Cert.KernelIdeal.Gen Cert.KernelIdeal.Own

/-- The reference's result over arguments that are fine is the kernel's. -/
theorem agree (m : (ℓ : Loc Cert.KernelIdeal.nD Cert.KernelIdeal.τ Cert.KernelIdeal.sig) → Buf (Elt Ideal) ℓ) (c : Dev Cert.KernelIdeal.nD)
    (h : (argsOf m c).Fine) :
    Cert.ReferenceIdeal.Read.val_main_v101 (F := Ideal) (argsOf m c).x0 (argsOf m c).x1 (argsOf m c).x2 (argsOf m c).x3 (argsOf m c).x4 (argsOf m c).x5 (argsOf m c).x6 (argsOf m c).x7 (argsOf m c).x8 (argsOf m c).x9 (argsOf m c).x10 (argsOf m c).x11 (argsOf m c).x12 (argsOf m c).x13 (argsOf m c).x14 (argsOf m c).x15 (argsOf m c).x16 (argsOf m c).x17 (argsOf m c).x18 = V5 m (outs m) c (Proc.devRef .tc main_v20) := by
  refine Eq.trans ?_ (res_eq m c).symm
  exact congrArg (fun x => shapeCast S16x8x64 x shapeCasts_S16x512_S16x8x64) (At.ext (Cert.ReferenceIdeal.Own.result_at h) (last_at m c h))

theorem algebraic : Cert.algebraic_KernelIdeal_ReferenceIdeal_pre_trained_inputs (hKernelIdeal := Cert.KernelIdeal.Gen.facts)
    (hReferenceIdeal := Cert.ReferenceIdeal.Gen.facts) (hPre_trained_inputs := Cert.Pre_trained_inputs.Own.facts) := by
  intro m g m' g' hp he
  refine ⟨fun c => V5 m (outs m) c (Proc.devRef .tc main_v20), ?_, ?_⟩
  · exact Idealize.ShloMosaic.θ_run_mono (run_read m g) fun r h c =>
      ⟨h.1 c main_v20 rfl,
        (h.1 c main_arg0 rfl).trans (V5_main_arg0 m (outs m) c),
        (h.1 c main_arg1 rfl).trans (V5_main_arg1 m (outs m) c),
        (h.1 c main_arg2 rfl).trans (V5_main_arg2 m (outs m) c),
        (h.1 c main_arg3 rfl).trans (V5_main_arg3 m (outs m) c),
        (h.1 c main_arg4 rfl).trans (V5_main_arg4 m (outs m) c),
        (h.1 c main_arg5 rfl).trans (V5_main_arg5 m (outs m) c),
        (h.1 c main_arg6 rfl).trans (V5_main_arg6 m (outs m) c),
        (h.1 c main_arg7 rfl).trans (V5_main_arg7 m (outs m) c),
        (h.1 c main_arg8 rfl).trans (V5_main_arg8 m (outs m) c),
        (h.1 c main_arg9 rfl).trans (V5_main_arg9 m (outs m) c),
        (h.1 c main_arg10 rfl).trans (V5_main_arg10 m (outs m) c),
        (h.1 c main_arg11 rfl).trans (V5_main_arg11 m (outs m) c),
        (h.1 c main_arg12 rfl).trans (V5_main_arg12 m (outs m) c),
        (h.1 c main_arg13 rfl).trans (V5_main_arg13 m (outs m) c),
        (h.1 c main_arg14 rfl).trans (V5_main_arg14 m (outs m) c),
        (h.1 c main_arg15 rfl).trans (V5_main_arg15 m (outs m) c),
        (h.1 c main_arg16 rfl).trans (V5_main_arg16 m (outs m) c),
        (h.1 c main_arg17 rfl).trans (V5_main_arg17 m (outs m) c),
        (h.1 c main_arg18 rfl).trans (V5_main_arg18 m (outs m) c)⟩
  · refine Idealize.ShloMosaic.θ_run_mono (Cert.ReferenceIdeal.Value.run (F := Ideal) m' g') fun r h c => ⟨?_, (h c).2⟩
    refine (h c).1.trans ((Cert.ReferenceIdeal.Read.val_main_v101_eq (StableHlo.launchContents m' c)).trans ?_)
    have hf : (argsOf m c).Fine := Cert.Pre_trained_inputs.Own.fine (argsOf m c) (hp c)
    refine Eq.trans ?_ (agree m c hf)
    obtain ⟨e0, e1, e2, e3, e4, e5, e6, e7, e8, e9, e10, e11, e12, e13, e14, e15, e16, e17, e18⟩ := he c
    show Cert.ReferenceIdeal.Read.val_main_v101 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [e0, e1, e2, e3, e4, e5, e6, e7, e8, e9, e10, e11, e12, e13, e14, e15, e16, e17, e18]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Ideal.Frame
public import proofs.«01_k».proof.Proof.Bits.Frame
public import proofs.«01_k».proof.Proof.Ref.Frame
public import proofs.«01_k».proof.Proof.Net.Algebraic
public import Idealize.ShloMosaic.Adequacy
public import Idealize.ShloMosaic.Init

@[expose] public section

noncomputable section

namespace Cert.Proof

open Idealize.ShloMosaic Idealize.SL.Sem Cert.Kernel

/-- The frames, said again under the precondition, hold without it. -/
theorem claim : Cert.Claim := ⟨Cert.Kernel.Gen.facts, Cert.KernelIdeal.Gen.facts, Cert.ReferenceIdeal.Gen.facts, Cert.Pre_trained_inputs.Own.facts,
  frame_bits, frame_ideal, fun m ρ _ => frame_ideal m ρ trivial, frame_reference, fun m ρ _ => frame_reference m ρ trivial, trivial, algebraic⟩

end Cert.Proof

end
